-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x4096x128 : Shape := ⟨3, ![64, 4096, 128]⟩
abbrev S64x128 : Shape := ⟨2, ![64, 128]⟩
abbrev S3x256x128 : Shape := ⟨3, ![3, 256, 128]⟩
abbrev S128 : Shape := ⟨1, ![128]⟩
abbrev S3 : Shape := ⟨1, ![3]⟩
abbrev S1x256x128 : Shape := ⟨3, ![1, 256, 128]⟩
abbrev S256x128 : Shape := ⟨2, ![256, 128]⟩
abbrev S1 : Shape := ⟨1, ![1]⟩
abbrev S_ : Shape := ⟨0, ![]⟩
abbrev S16 : Shape := ⟨1, ![16]⟩
abbrev S1x1x16 : Shape := ⟨3, ![1, 1, 16]⟩
abbrev S1x128 : Shape := ⟨2, ![1, 128]⟩

abbrev nBuf : Table → Nat
  | .hbm => 2
  | .local .scVector .vmem => 2
  | _ => 0

abbrev bufTy : (tb : Table) → Fin (nBuf tb) → BufTy
  | .hbm, ⟨0, _⟩ => ⟨S64x4096x128, .f32⟩
  | .hbm, ⟨1, _⟩ => ⟨S64x128, .f32⟩
  | .local .scVector .vmem, ⟨0, _⟩ => ⟨S3x256x128, .f32⟩
  | .local .scVector .vmem, ⟨1, _⟩ => ⟨S128, .f32⟩
  | _, _ => ⟨S64x4096x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c0_i32_5 : BitVec 32 := 0#32
  let c0_i32_6 : BitVec 32 := 0#32
  ![v3.toNat, 0, 0]
def k0_off2 (i : grid0.Coords) (c0_i32_11 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v14 : BitVec 32 := Scalar.addi v2 c0_i32_11
  let c256_i32 : BitVec 32 := 256#32
  let c0_i32_15 : BitVec 32 := 0#32
  ![v14.toNat, 256, 0]
def k0_off3 (i : grid0.Coords) (c0_i32_20 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v25 : BitVec 32 := Scalar.addi v2 c0_i32_20
  let c512_i32 : BitVec 32 := 512#32
  let c0_i32_25 : BitVec 32 := 0#32
  ![v25.toNat, 512, 0]
@[reducible] def k0_t1_loop : Scf.Loop 32 :=
  let c0_i32_47 : BitVec 32 := 0#32
  let c32_i32 : BitVec 32 := 32#32
  let v54 : BitVec 32 := Scalar.addi c0_i32_47 c32_i32
  let c1_i32_48 : BitVec 32 := 1#32
  ⟨c0_i32_47, v54, c1_i32_48⟩
def k0_off4 (k0_t1 : Fin k0_t1_loop.trips) (c0_i32_808 : BitVec 32) : Fin 3 → Nat :=
  let c0_i32_809 : BitVec 32 := 0#32
  let v807 : Index := Scalar.indexCast c0_i32_809
  let c0_i32_47 : BitVec 32 := 0#32
  let c1_i32_48 : BitVec 32 := 1#32
  let arg7 : BitVec 32 := Scf.iv c0_i32_47 c1_i32_48 k0_t1
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![0, v808.toNat, 0]
def k0_off5 (k0_t1 : Fin k0_t1_loop.trips) (c0_i32_811 : BitVec 32) : Fin 3 → Nat :=
  let c0_i32_812 : BitVec 32 := 0#32
  let v813 : Index := Scalar.indexCast c0_i32_812
  let c0_i32_47 : BitVec 32 := 0#32
  let c1_i32_48 : BitVec 32 := 1#32
  let arg7 : BitVec 32 := Scf.iv c0_i32_47 c1_i32_48 k0_t1
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![0, v814.toNat, 16]
def k0_off6 (k0_t1 : Fin k0_t1_loop.trips) (c0_i32_814 : BitVec 32) : Fin 3 → Nat :=
  let c0_i32_815 : BitVec 32 := 0#32
  let v819 : Index := Scalar.indexCast c0_i32_815
  let c0_i32_47 : BitVec 32 := 0#32
  let c1_i32_48 : BitVec 32 := 1#32
  let arg7 : BitVec 32 := Scf.iv c0_i32_47 c1_i32_48 k0_t1
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![0, v820.toNat, 32]
def k0_off7 (k0_t1 : Fin k0_t1_loop.trips) (c0_i32_817 : BitVec 32) : Fin 3 → Nat :=
  let c0_i32_818 : BitVec 32 := 0#32
  let v825 : Index := Scalar.indexCast c0_i32_818
  let c0_i32_47 : BitVec 32 := 0#32
  let c1_i32_48 : BitVec 32 := 1#32
  let arg7 : BitVec 32 := Scf.iv c0_i32_47 c1_i32_48 k0_t1
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![0, v826.toNat, 48]
def k0_off8 (k0_t1 : Fin k0_t1_loop.trips) (c0_i32_820 : BitVec 32) : Fin 3 → Nat :=
  let c0_i32_821 : BitVec 32 := 0#32
  let v831 : Index := Scalar.indexCast c0_i32_821
  let c0_i32_47 : BitVec 32 := 0#32
  let c1_i32_48 : BitVec 32 := 1#32
  let arg7 : BitVec 32 := Scf.iv c0_i32_47 c1_i32_48 k0_t1
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![0, v832.toNat, 64]
def k0_off9 (k0_t1 : Fin k0_t1_loop.trips) (c0_i32_823 : BitVec 32) : Fin 3 → Nat :=
  let c0_i32_824 : BitVec 32 := 0#32
  let v837 : Index := Scalar.indexCast c0_i32_824
  let c0_i32_47 : BitVec 32 := 0#32
  let c1_i32_48 : BitVec 32 := 1#32
  let arg7 : BitVec 32 := Scf.iv c0_i32_47 c1_i32_48 k0_t1
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![0, v838.toNat, 80]
def k0_off10 (k0_t1 : Fin k0_t1_loop.trips) (c0_i32_826 : BitVec 32) : Fin 3 → Nat :=
  let c0_i32_827 : BitVec 32 := 0#32
  let v843 : Index := Scalar.indexCast c0_i32_827
  let c0_i32_47 : BitVec 32 := 0#32
  let c1_i32_48 : BitVec 32 := 1#32
  let arg7 : BitVec 32 := Scf.iv c0_i32_47 c1_i32_48 k0_t1
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![0, v844.toNat, 96]
def k0_off11 (k0_t1 : Fin k0_t1_loop.trips) (c0_i32_829 : BitVec 32) : Fin 3 → Nat :=
  let c0_i32_830 : BitVec 32 := 0#32
  let v849 : Index := Scalar.indexCast c0_i32_830
  let c0_i32_47 : BitVec 32 := 0#32
  let c1_i32_48 : BitVec 32 := 1#32
  let arg7 : BitVec 32 := Scf.iv c0_i32_47 c1_i32_48 k0_t1
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![0, v850.toNat, 112]
def k0_off12 (i : grid0.Coords) (c0_i32_50 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v56 : BitVec 32 := Scalar.addi v2 c0_i32_50
  let c768_i32 : BitVec 32 := 768#32
  let c0_i32_55 : BitVec 32 := 0#32
  ![v56.toNat, 768, 0]
@[reducible] def k0_t2_loop : Scf.Loop 32 :=
  let c0_i32_70 : BitVec 32 := 0#32
  let c32_i32_71 : BitVec 32 := 32#32
  let v77 : BitVec 32 := Scalar.addi c0_i32_70 c32_i32_71
  let c1_i32_72 : BitVec 32 := 1#32
  ⟨c0_i32_70, v77, c1_i32_72⟩
def k0_off13 (k0_t2 : Fin k0_t2_loop.trips) (c0_i32_808 : BitVec 32) : Fin 3 → Nat :=
  let c1_i32_809 : BitVec 32 := 1#32
  let v807 : Index := Scalar.indexCast c1_i32_809
  let c0_i32_70 : BitVec 32 := 0#32
  let c1_i32_72 : BitVec 32 := 1#32
  let arg7 : BitVec 32 := Scf.iv c0_i32_70 c1_i32_72 k0_t2
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![1, v808.toNat, 0]
def k0_off14 (k0_t2 : Fin k0_t2_loop.trips) (c0_i32_811 : BitVec 32) : Fin 3 → Nat :=
  let c1_i32_812 : BitVec 32 := 1#32
  let v813 : Index := Scalar.indexCast c1_i32_812
  let c0_i32_70 : BitVec 32 := 0#32
  let c1_i32_72 : BitVec 32 := 1#32
  let arg7 : BitVec 32 := Scf.iv c0_i32_70 c1_i32_72 k0_t2
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![1, v814.toNat, 16]
def k0_off15 (k0_t2 : Fin k0_t2_loop.trips) (c0_i32_814 : BitVec 32) : Fin 3 → Nat :=
  let c1_i32_815 : BitVec 32 := 1#32
  let v819 : Index := Scalar.indexCast c1_i32_815
  let c0_i32_70 : BitVec 32 := 0#32
  let c1_i32_72 : BitVec 32 := 1#32
  let arg7 : BitVec 32 := Scf.iv c0_i32_70 c1_i32_72 k0_t2
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![1, v820.toNat, 32]
def k0_off16 (k0_t2 : Fin k0_t2_loop.trips) (c0_i32_817 : BitVec 32) : Fin 3 → Nat :=
  let c1_i32_818 : BitVec 32 := 1#32
  let v825 : Index := Scalar.indexCast c1_i32_818
  let c0_i32_70 : BitVec 32 := 0#32
  let c1_i32_72 : BitVec 32 := 1#32
  let arg7 : BitVec 32 := Scf.iv c0_i32_70 c1_i32_72 k0_t2
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![1, v826.toNat, 48]
def k0_off17 (k0_t2 : Fin k0_t2_loop.trips) (c0_i32_820 : BitVec 32) : Fin 3 → Nat :=
  let c1_i32_821 : BitVec 32 := 1#32
  let v831 : Index := Scalar.indexCast c1_i32_821
  let c0_i32_70 : BitVec 32 := 0#32
  let c1_i32_72 : BitVec 32 := 1#32
  let arg7 : BitVec 32 := Scf.iv c0_i32_70 c1_i32_72 k0_t2
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![1, v832.toNat, 64]
def k0_off18 (k0_t2 : Fin k0_t2_loop.trips) (c0_i32_823 : BitVec 32) : Fin 3 → Nat :=
  let c1_i32_824 : BitVec 32 := 1#32
  let v837 : Index := Scalar.indexCast c1_i32_824
  let c0_i32_70 : BitVec 32 := 0#32
  let c1_i32_72 : BitVec 32 := 1#32
  let arg7 : BitVec 32 := Scf.iv c0_i32_70 c1_i32_72 k0_t2
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![1, v838.toNat, 80]
def k0_off19 (k0_t2 : Fin k0_t2_loop.trips) (c0_i32_826 : BitVec 32) : Fin 3 → Nat :=
  let c1_i32_827 : BitVec 32 := 1#32
  let v843 : Index := Scalar.indexCast c1_i32_827
  let c0_i32_70 : BitVec 32 := 0#32
  let c1_i32_72 : BitVec 32 := 1#32
  let arg7 : BitVec 32 := Scf.iv c0_i32_70 c1_i32_72 k0_t2
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![1, v844.toNat, 96]
def k0_off20 (k0_t2 : Fin k0_t2_loop.trips) (c0_i32_829 : BitVec 32) : Fin 3 → Nat :=
  let c1_i32_830 : BitVec 32 := 1#32
  let v849 : Index := Scalar.indexCast c1_i32_830
  let c0_i32_70 : BitVec 32 := 0#32
  let c1_i32_72 : BitVec 32 := 1#32
  let arg7 : BitVec 32 := Scf.iv c0_i32_70 c1_i32_72 k0_t2
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![1, v850.toNat, 112]
def k0_off21 (i : grid0.Coords) (c0_i32_74 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v79 : BitVec 32 := Scalar.addi v2 c0_i32_74
  let c1024_i32 : BitVec 32 := 1024#32
  let c0_i32_79 : BitVec 32 := 0#32
  ![v79.toNat, 1024, 0]
@[reducible] def k0_t3_loop : Scf.Loop 32 :=
  let c0_i32_94 : BitVec 32 := 0#32
  let c32_i32_95 : BitVec 32 := 32#32
  let v100 : BitVec 32 := Scalar.addi c0_i32_94 c32_i32_95
  let c1_i32_96 : BitVec 32 := 1#32
  ⟨c0_i32_94, v100, c1_i32_96⟩
def k0_off22 (k0_t3 : Fin k0_t3_loop.trips) (c0_i32_808 : BitVec 32) : Fin 3 → Nat :=
  let c2_i32_809 : BitVec 32 := 2#32
  let v807 : Index := Scalar.indexCast c2_i32_809
  let c0_i32_94 : BitVec 32 := 0#32
  let c1_i32_96 : BitVec 32 := 1#32
  let arg7 : BitVec 32 := Scf.iv c0_i32_94 c1_i32_96 k0_t3
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![2, v808.toNat, 0]
def k0_off23 (k0_t3 : Fin k0_t3_loop.trips) (c0_i32_811 : BitVec 32) : Fin 3 → Nat :=
  let c2_i32_812 : BitVec 32 := 2#32
  let v813 : Index := Scalar.indexCast c2_i32_812
  let c0_i32_94 : BitVec 32 := 0#32
  let c1_i32_96 : BitVec 32 := 1#32
  let arg7 : BitVec 32 := Scf.iv c0_i32_94 c1_i32_96 k0_t3
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![2, v814.toNat, 16]
def k0_off24 (k0_t3 : Fin k0_t3_loop.trips) (c0_i32_814 : BitVec 32) : Fin 3 → Nat :=
  let c2_i32_815 : BitVec 32 := 2#32
  let v819 : Index := Scalar.indexCast c2_i32_815
  let c0_i32_94 : BitVec 32 := 0#32
  let c1_i32_96 : BitVec 32 := 1#32
  let arg7 : BitVec 32 := Scf.iv c0_i32_94 c1_i32_96 k0_t3
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![2, v820.toNat, 32]
def k0_off25 (k0_t3 : Fin k0_t3_loop.trips) (c0_i32_817 : BitVec 32) : Fin 3 → Nat :=
  let c2_i32_818 : BitVec 32 := 2#32
  let v825 : Index := Scalar.indexCast c2_i32_818
  let c0_i32_94 : BitVec 32 := 0#32
  let c1_i32_96 : BitVec 32 := 1#32
  let arg7 : BitVec 32 := Scf.iv c0_i32_94 c1_i32_96 k0_t3
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![2, v826.toNat, 48]
def k0_off26 (k0_t3 : Fin k0_t3_loop.trips) (c0_i32_820 : BitVec 32) : Fin 3 → Nat :=
  let c2_i32_821 : BitVec 32 := 2#32
  let v831 : Index := Scalar.indexCast c2_i32_821
  let c0_i32_94 : BitVec 32 := 0#32
  let c1_i32_96 : BitVec 32 := 1#32
  let arg7 : BitVec 32 := Scf.iv c0_i32_94 c1_i32_96 k0_t3
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![2, v832.toNat, 64]
def k0_off27 (k0_t3 : Fin k0_t3_loop.trips) (c0_i32_823 : BitVec 32) : Fin 3 → Nat :=
  let c2_i32_824 : BitVec 32 := 2#32
  let v837 : Index := Scalar.indexCast c2_i32_824
  let c0_i32_94 : BitVec 32 := 0#32
  let c1_i32_96 : BitVec 32 := 1#32
  let arg7 : BitVec 32 := Scf.iv c0_i32_94 c1_i32_96 k0_t3
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![2, v838.toNat, 80]
def k0_off28 (k0_t3 : Fin k0_t3_loop.trips) (c0_i32_826 : BitVec 32) : Fin 3 → Nat :=
  let c2_i32_827 : BitVec 32 := 2#32
  let v843 : Index := Scalar.indexCast c2_i32_827
  let c0_i32_94 : BitVec 32 := 0#32
  let c1_i32_96 : BitVec 32 := 1#32
  let arg7 : BitVec 32 := Scf.iv c0_i32_94 c1_i32_96 k0_t3
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![2, v844.toNat, 96]
def k0_off29 (k0_t3 : Fin k0_t3_loop.trips) (c0_i32_829 : BitVec 32) : Fin 3 → Nat :=
  let c2_i32_830 : BitVec 32 := 2#32
  let v849 : Index := Scalar.indexCast c2_i32_830
  let c0_i32_94 : BitVec 32 := 0#32
  let c1_i32_96 : BitVec 32 := 1#32
  let arg7 : BitVec 32 := Scf.iv c0_i32_94 c1_i32_96 k0_t3
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![2, v850.toNat, 112]
def k0_off30 (i : grid0.Coords) (c0_i32_98 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v102 : BitVec 32 := Scalar.addi v2 c0_i32_98
  let c1280_i32 : BitVec 32 := 1280#32
  let c0_i32_103 : BitVec 32 := 0#32
  ![v102.toNat, 1280, 0]
@[reducible] def k0_t4_loop : Scf.Loop 32 :=
  let c0_i32_118 : BitVec 32 := 0#32
  let c32_i32_119 : BitVec 32 := 32#32
  let v123 : BitVec 32 := Scalar.addi c0_i32_118 c32_i32_119
  let c1_i32_120 : BitVec 32 := 1#32
  ⟨c0_i32_118, v123, c1_i32_120⟩
def k0_off31 (k0_t4 : Fin k0_t4_loop.trips) (c0_i32_808 : BitVec 32) : Fin 3 → Nat :=
  let c0_i32_809 : BitVec 32 := 0#32
  let v807 : Index := Scalar.indexCast c0_i32_809
  let c0_i32_118 : BitVec 32 := 0#32
  let c1_i32_120 : BitVec 32 := 1#32
  let arg7 : BitVec 32 := Scf.iv c0_i32_118 c1_i32_120 k0_t4
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![0, v808.toNat, 0]
def k0_off32 (k0_t4 : Fin k0_t4_loop.trips) (c0_i32_811 : BitVec 32) : Fin 3 → Nat :=
  let c0_i32_812 : BitVec 32 := 0#32
  let v813 : Index := Scalar.indexCast c0_i32_812
  let c0_i32_118 : BitVec 32 := 0#32
  let c1_i32_120 : BitVec 32 := 1#32
  let arg7 : BitVec 32 := Scf.iv c0_i32_118 c1_i32_120 k0_t4
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![0, v814.toNat, 16]
def k0_off33 (k0_t4 : Fin k0_t4_loop.trips) (c0_i32_814 : BitVec 32) : Fin 3 → Nat :=
  let c0_i32_815 : BitVec 32 := 0#32
  let v819 : Index := Scalar.indexCast c0_i32_815
  let c0_i32_118 : BitVec 32 := 0#32
  let c1_i32_120 : BitVec 32 := 1#32
  let arg7 : BitVec 32 := Scf.iv c0_i32_118 c1_i32_120 k0_t4
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![0, v820.toNat, 32]
def k0_off34 (k0_t4 : Fin k0_t4_loop.trips) (c0_i32_817 : BitVec 32) : Fin 3 → Nat :=
  let c0_i32_818 : BitVec 32 := 0#32
  let v825 : Index := Scalar.indexCast c0_i32_818
  let c0_i32_118 : BitVec 32 := 0#32
  let c1_i32_120 : BitVec 32 := 1#32
  let arg7 : BitVec 32 := Scf.iv c0_i32_118 c1_i32_120 k0_t4
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![0, v826.toNat, 48]
def k0_off35 (k0_t4 : Fin k0_t4_loop.trips) (c0_i32_820 : BitVec 32) : Fin 3 → Nat :=
  let c0_i32_821 : BitVec 32 := 0#32
  let v831 : Index := Scalar.indexCast c0_i32_821
  let c0_i32_118 : BitVec 32 := 0#32
  let c1_i32_120 : BitVec 32 := 1#32
  let arg7 : BitVec 32 := Scf.iv c0_i32_118 c1_i32_120 k0_t4
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![0, v832.toNat, 64]
def k0_off36 (k0_t4 : Fin k0_t4_loop.trips) (c0_i32_823 : BitVec 32) : Fin 3 → Nat :=
  let c0_i32_824 : BitVec 32 := 0#32
  let v837 : Index := Scalar.indexCast c0_i32_824
  let c0_i32_118 : BitVec 32 := 0#32
  let c1_i32_120 : BitVec 32 := 1#32
  let arg7 : BitVec 32 := Scf.iv c0_i32_118 c1_i32_120 k0_t4
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![0, v838.toNat, 80]
def k0_off37 (k0_t4 : Fin k0_t4_loop.trips) (c0_i32_826 : BitVec 32) : Fin 3 → Nat :=
  let c0_i32_827 : BitVec 32 := 0#32
  let v843 : Index := Scalar.indexCast c0_i32_827
  let c0_i32_118 : BitVec 32 := 0#32
  let c1_i32_120 : BitVec 32 := 1#32
  let arg7 : BitVec 32 := Scf.iv c0_i32_118 c1_i32_120 k0_t4
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![0, v844.toNat, 96]
def k0_off38 (k0_t4 : Fin k0_t4_loop.trips) (c0_i32_829 : BitVec 32) : Fin 3 → Nat :=
  let c0_i32_830 : BitVec 32 := 0#32
  let v849 : Index := Scalar.indexCast c0_i32_830
  let c0_i32_118 : BitVec 32 := 0#32
  let c1_i32_120 : BitVec 32 := 1#32
  let arg7 : BitVec 32 := Scf.iv c0_i32_118 c1_i32_120 k0_t4
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![0, v850.toNat, 112]
def k0_off39 (i : grid0.Coords) (c0_i32_122 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v125 : BitVec 32 := Scalar.addi v2 c0_i32_122
  let c1536_i32 : BitVec 32 := 1536#32
  let c0_i32_127 : BitVec 32 := 0#32
  ![v125.toNat, 1536, 0]
@[reducible] def k0_t5_loop : Scf.Loop 32 :=
  let c0_i32_142 : BitVec 32 := 0#32
  let c32_i32_143 : BitVec 32 := 32#32
  let v146 : BitVec 32 := Scalar.addi c0_i32_142 c32_i32_143
  let c1_i32_144 : BitVec 32 := 1#32
  ⟨c0_i32_142, v146, c1_i32_144⟩
def k0_off40 (k0_t5 : Fin k0_t5_loop.trips) (c0_i32_808 : BitVec 32) : Fin 3 → Nat :=
  let c1_i32_809 : BitVec 32 := 1#32
  let v807 : Index := Scalar.indexCast c1_i32_809
  let c0_i32_142 : BitVec 32 := 0#32
  let c1_i32_144 : BitVec 32 := 1#32
  let arg7 : BitVec 32 := Scf.iv c0_i32_142 c1_i32_144 k0_t5
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![1, v808.toNat, 0]
def k0_off41 (k0_t5 : Fin k0_t5_loop.trips) (c0_i32_811 : BitVec 32) : Fin 3 → Nat :=
  let c1_i32_812 : BitVec 32 := 1#32
  let v813 : Index := Scalar.indexCast c1_i32_812
  let c0_i32_142 : BitVec 32 := 0#32
  let c1_i32_144 : BitVec 32 := 1#32
  let arg7 : BitVec 32 := Scf.iv c0_i32_142 c1_i32_144 k0_t5
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![1, v814.toNat, 16]
def k0_off42 (k0_t5 : Fin k0_t5_loop.trips) (c0_i32_814 : BitVec 32) : Fin 3 → Nat :=
  let c1_i32_815 : BitVec 32 := 1#32
  let v819 : Index := Scalar.indexCast c1_i32_815
  let c0_i32_142 : BitVec 32 := 0#32
  let c1_i32_144 : BitVec 32 := 1#32
  let arg7 : BitVec 32 := Scf.iv c0_i32_142 c1_i32_144 k0_t5
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![1, v820.toNat, 32]
def k0_off43 (k0_t5 : Fin k0_t5_loop.trips) (c0_i32_817 : BitVec 32) : Fin 3 → Nat :=
  let c1_i32_818 : BitVec 32 := 1#32
  let v825 : Index := Scalar.indexCast c1_i32_818
  let c0_i32_142 : BitVec 32 := 0#32
  let c1_i32_144 : BitVec 32 := 1#32
  let arg7 : BitVec 32 := Scf.iv c0_i32_142 c1_i32_144 k0_t5
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![1, v826.toNat, 48]
def k0_off44 (k0_t5 : Fin k0_t5_loop.trips) (c0_i32_820 : BitVec 32) : Fin 3 → Nat :=
  let c1_i32_821 : BitVec 32 := 1#32
  let v831 : Index := Scalar.indexCast c1_i32_821
  let c0_i32_142 : BitVec 32 := 0#32
  let c1_i32_144 : BitVec 32 := 1#32
  let arg7 : BitVec 32 := Scf.iv c0_i32_142 c1_i32_144 k0_t5
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![1, v832.toNat, 64]
def k0_off45 (k0_t5 : Fin k0_t5_loop.trips) (c0_i32_823 : BitVec 32) : Fin 3 → Nat :=
  let c1_i32_824 : BitVec 32 := 1#32
  let v837 : Index := Scalar.indexCast c1_i32_824
  let c0_i32_142 : BitVec 32 := 0#32
  let c1_i32_144 : BitVec 32 := 1#32
  let arg7 : BitVec 32 := Scf.iv c0_i32_142 c1_i32_144 k0_t5
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![1, v838.toNat, 80]
def k0_off46 (k0_t5 : Fin k0_t5_loop.trips) (c0_i32_826 : BitVec 32) : Fin 3 → Nat :=
  let c1_i32_827 : BitVec 32 := 1#32
  let v843 : Index := Scalar.indexCast c1_i32_827
  let c0_i32_142 : BitVec 32 := 0#32
  let c1_i32_144 : BitVec 32 := 1#32
  let arg7 : BitVec 32 := Scf.iv c0_i32_142 c1_i32_144 k0_t5
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![1, v844.toNat, 96]
def k0_off47 (k0_t5 : Fin k0_t5_loop.trips) (c0_i32_829 : BitVec 32) : Fin 3 → Nat :=
  let c1_i32_830 : BitVec 32 := 1#32
  let v849 : Index := Scalar.indexCast c1_i32_830
  let c0_i32_142 : BitVec 32 := 0#32
  let c1_i32_144 : BitVec 32 := 1#32
  let arg7 : BitVec 32 := Scf.iv c0_i32_142 c1_i32_144 k0_t5
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![1, v850.toNat, 112]
def k0_off48 (i : grid0.Coords) (c0_i32_146 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v148 : BitVec 32 := Scalar.addi v2 c0_i32_146
  let c1792_i32 : BitVec 32 := 1792#32
  let c0_i32_151 : BitVec 32 := 0#32
  ![v148.toNat, 1792, 0]
@[reducible] def k0_t6_loop : Scf.Loop 32 :=
  let c0_i32_166 : BitVec 32 := 0#32
  let c32_i32_167 : BitVec 32 := 32#32
  let v169 : BitVec 32 := Scalar.addi c0_i32_166 c32_i32_167
  let c1_i32_168 : BitVec 32 := 1#32
  ⟨c0_i32_166, v169, c1_i32_168⟩
def k0_off49 (k0_t6 : Fin k0_t6_loop.trips) (c0_i32_808 : BitVec 32) : Fin 3 → Nat :=
  let c2_i32_809 : BitVec 32 := 2#32
  let v807 : Index := Scalar.indexCast c2_i32_809
  let c0_i32_166 : BitVec 32 := 0#32
  let c1_i32_168 : BitVec 32 := 1#32
  let arg7 : BitVec 32 := Scf.iv c0_i32_166 c1_i32_168 k0_t6
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![2, v808.toNat, 0]
def k0_off50 (k0_t6 : Fin k0_t6_loop.trips) (c0_i32_811 : BitVec 32) : Fin 3 → Nat :=
  let c2_i32_812 : BitVec 32 := 2#32
  let v813 : Index := Scalar.indexCast c2_i32_812
  let c0_i32_166 : BitVec 32 := 0#32
  let c1_i32_168 : BitVec 32 := 1#32
  let arg7 : BitVec 32 := Scf.iv c0_i32_166 c1_i32_168 k0_t6
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![2, v814.toNat, 16]
def k0_off51 (k0_t6 : Fin k0_t6_loop.trips) (c0_i32_814 : BitVec 32) : Fin 3 → Nat :=
  let c2_i32_815 : BitVec 32 := 2#32
  let v819 : Index := Scalar.indexCast c2_i32_815
  let c0_i32_166 : BitVec 32 := 0#32
  let c1_i32_168 : BitVec 32 := 1#32
  let arg7 : BitVec 32 := Scf.iv c0_i32_166 c1_i32_168 k0_t6
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![2, v820.toNat, 32]
def k0_off52 (k0_t6 : Fin k0_t6_loop.trips) (c0_i32_817 : BitVec 32) : Fin 3 → Nat :=
  let c2_i32_818 : BitVec 32 := 2#32
  let v825 : Index := Scalar.indexCast c2_i32_818
  let c0_i32_166 : BitVec 32 := 0#32
  let c1_i32_168 : BitVec 32 := 1#32
  let arg7 : BitVec 32 := Scf.iv c0_i32_166 c1_i32_168 k0_t6
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![2, v826.toNat, 48]
def k0_off53 (k0_t6 : Fin k0_t6_loop.trips) (c0_i32_820 : BitVec 32) : Fin 3 → Nat :=
  let c2_i32_821 : BitVec 32 := 2#32
  let v831 : Index := Scalar.indexCast c2_i32_821
  let c0_i32_166 : BitVec 32 := 0#32
  let c1_i32_168 : BitVec 32 := 1#32
  let arg7 : BitVec 32 := Scf.iv c0_i32_166 c1_i32_168 k0_t6
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![2, v832.toNat, 64]
def k0_off54 (k0_t6 : Fin k0_t6_loop.trips) (c0_i32_823 : BitVec 32) : Fin 3 → Nat :=
  let c2_i32_824 : BitVec 32 := 2#32
  let v837 : Index := Scalar.indexCast c2_i32_824
  let c0_i32_166 : BitVec 32 := 0#32
  let c1_i32_168 : BitVec 32 := 1#32
  let arg7 : BitVec 32 := Scf.iv c0_i32_166 c1_i32_168 k0_t6
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![2, v838.toNat, 80]
def k0_off55 (k0_t6 : Fin k0_t6_loop.trips) (c0_i32_826 : BitVec 32) : Fin 3 → Nat :=
  let c2_i32_827 : BitVec 32 := 2#32
  let v843 : Index := Scalar.indexCast c2_i32_827
  let c0_i32_166 : BitVec 32 := 0#32
  let c1_i32_168 : BitVec 32 := 1#32
  let arg7 : BitVec 32 := Scf.iv c0_i32_166 c1_i32_168 k0_t6
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![2, v844.toNat, 96]
def k0_off56 (k0_t6 : Fin k0_t6_loop.trips) (c0_i32_829 : BitVec 32) : Fin 3 → Nat :=
  let c2_i32_830 : BitVec 32 := 2#32
  let v849 : Index := Scalar.indexCast c2_i32_830
  let c0_i32_166 : BitVec 32 := 0#32
  let c1_i32_168 : BitVec 32 := 1#32
  let arg7 : BitVec 32 := Scf.iv c0_i32_166 c1_i32_168 k0_t6
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![2, v850.toNat, 112]
def k0_off57 (i : grid0.Coords) (c0_i32_170 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v171 : BitVec 32 := Scalar.addi v2 c0_i32_170
  let c2048_i32 : BitVec 32 := 2048#32
  let c0_i32_175 : BitVec 32 := 0#32
  ![v171.toNat, 2048, 0]
@[reducible] def k0_t7_loop : Scf.Loop 32 :=
  let c0_i32_190 : BitVec 32 := 0#32
  let c32_i32_191 : BitVec 32 := 32#32
  let v192 : BitVec 32 := Scalar.addi c0_i32_190 c32_i32_191
  let c1_i32_192 : BitVec 32 := 1#32
  ⟨c0_i32_190, v192, c1_i32_192⟩
def k0_off58 (k0_t7 : Fin k0_t7_loop.trips) (c0_i32_808 : BitVec 32) : Fin 3 → Nat :=
  let c0_i32_809 : BitVec 32 := 0#32
  let v807 : Index := Scalar.indexCast c0_i32_809
  let c0_i32_190 : BitVec 32 := 0#32
  let c1_i32_192 : BitVec 32 := 1#32
  let arg7 : BitVec 32 := Scf.iv c0_i32_190 c1_i32_192 k0_t7
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![0, v808.toNat, 0]
def k0_off59 (k0_t7 : Fin k0_t7_loop.trips) (c0_i32_811 : BitVec 32) : Fin 3 → Nat :=
  let c0_i32_812 : BitVec 32 := 0#32
  let v813 : Index := Scalar.indexCast c0_i32_812
  let c0_i32_190 : BitVec 32 := 0#32
  let c1_i32_192 : BitVec 32 := 1#32
  let arg7 : BitVec 32 := Scf.iv c0_i32_190 c1_i32_192 k0_t7
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![0, v814.toNat, 16]
def k0_off60 (k0_t7 : Fin k0_t7_loop.trips) (c0_i32_814 : BitVec 32) : Fin 3 → Nat :=
  let c0_i32_815 : BitVec 32 := 0#32
  let v819 : Index := Scalar.indexCast c0_i32_815
  let c0_i32_190 : BitVec 32 := 0#32
  let c1_i32_192 : BitVec 32 := 1#32
  let arg7 : BitVec 32 := Scf.iv c0_i32_190 c1_i32_192 k0_t7
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![0, v820.toNat, 32]
def k0_off61 (k0_t7 : Fin k0_t7_loop.trips) (c0_i32_817 : BitVec 32) : Fin 3 → Nat :=
  let c0_i32_818 : BitVec 32 := 0#32
  let v825 : Index := Scalar.indexCast c0_i32_818
  let c0_i32_190 : BitVec 32 := 0#32
  let c1_i32_192 : BitVec 32 := 1#32
  let arg7 : BitVec 32 := Scf.iv c0_i32_190 c1_i32_192 k0_t7
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![0, v826.toNat, 48]
def k0_off62 (k0_t7 : Fin k0_t7_loop.trips) (c0_i32_820 : BitVec 32) : Fin 3 → Nat :=
  let c0_i32_821 : BitVec 32 := 0#32
  let v831 : Index := Scalar.indexCast c0_i32_821
  let c0_i32_190 : BitVec 32 := 0#32
  let c1_i32_192 : BitVec 32 := 1#32
  let arg7 : BitVec 32 := Scf.iv c0_i32_190 c1_i32_192 k0_t7
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![0, v832.toNat, 64]
def k0_off63 (k0_t7 : Fin k0_t7_loop.trips) (c0_i32_823 : BitVec 32) : Fin 3 → Nat :=
  let c0_i32_824 : BitVec 32 := 0#32
  let v837 : Index := Scalar.indexCast c0_i32_824
  let c0_i32_190 : BitVec 32 := 0#32
  let c1_i32_192 : BitVec 32 := 1#32
  let arg7 : BitVec 32 := Scf.iv c0_i32_190 c1_i32_192 k0_t7
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![0, v838.toNat, 80]
def k0_off64 (k0_t7 : Fin k0_t7_loop.trips) (c0_i32_826 : BitVec 32) : Fin 3 → Nat :=
  let c0_i32_827 : BitVec 32 := 0#32
  let v843 : Index := Scalar.indexCast c0_i32_827
  let c0_i32_190 : BitVec 32 := 0#32
  let c1_i32_192 : BitVec 32 := 1#32
  let arg7 : BitVec 32 := Scf.iv c0_i32_190 c1_i32_192 k0_t7
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![0, v844.toNat, 96]
def k0_off65 (k0_t7 : Fin k0_t7_loop.trips) (c0_i32_829 : BitVec 32) : Fin 3 → Nat :=
  let c0_i32_830 : BitVec 32 := 0#32
  let v849 : Index := Scalar.indexCast c0_i32_830
  let c0_i32_190 : BitVec 32 := 0#32
  let c1_i32_192 : BitVec 32 := 1#32
  let arg7 : BitVec 32 := Scf.iv c0_i32_190 c1_i32_192 k0_t7
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![0, v850.toNat, 112]
def k0_off66 (i : grid0.Coords) (c0_i32_194 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v194 : BitVec 32 := Scalar.addi v2 c0_i32_194
  let c2304_i32 : BitVec 32 := 2304#32
  let c0_i32_199 : BitVec 32 := 0#32
  ![v194.toNat, 2304, 0]
@[reducible] def k0_t8_loop : Scf.Loop 32 :=
  let c0_i32_214 : BitVec 32 := 0#32
  let c32_i32_215 : BitVec 32 := 32#32
  let v215 : BitVec 32 := Scalar.addi c0_i32_214 c32_i32_215
  let c1_i32_216 : BitVec 32 := 1#32
  ⟨c0_i32_214, v215, c1_i32_216⟩
def k0_off67 (k0_t8 : Fin k0_t8_loop.trips) (c0_i32_808 : BitVec 32) : Fin 3 → Nat :=
  let c1_i32_809 : BitVec 32 := 1#32
  let v807 : Index := Scalar.indexCast c1_i32_809
  let c0_i32_214 : BitVec 32 := 0#32
  let c1_i32_216 : BitVec 32 := 1#32
  let arg7 : BitVec 32 := Scf.iv c0_i32_214 c1_i32_216 k0_t8
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![1, v808.toNat, 0]
def k0_off68 (k0_t8 : Fin k0_t8_loop.trips) (c0_i32_811 : BitVec 32) : Fin 3 → Nat :=
  let c1_i32_812 : BitVec 32 := 1#32
  let v813 : Index := Scalar.indexCast c1_i32_812
  let c0_i32_214 : BitVec 32 := 0#32
  let c1_i32_216 : BitVec 32 := 1#32
  let arg7 : BitVec 32 := Scf.iv c0_i32_214 c1_i32_216 k0_t8
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![1, v814.toNat, 16]
def k0_off69 (k0_t8 : Fin k0_t8_loop.trips) (c0_i32_814 : BitVec 32) : Fin 3 → Nat :=
  let c1_i32_815 : BitVec 32 := 1#32
  let v819 : Index := Scalar.indexCast c1_i32_815
  let c0_i32_214 : BitVec 32 := 0#32
  let c1_i32_216 : BitVec 32 := 1#32
  let arg7 : BitVec 32 := Scf.iv c0_i32_214 c1_i32_216 k0_t8
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![1, v820.toNat, 32]
def k0_off70 (k0_t8 : Fin k0_t8_loop.trips) (c0_i32_817 : BitVec 32) : Fin 3 → Nat :=
  let c1_i32_818 : BitVec 32 := 1#32
  let v825 : Index := Scalar.indexCast c1_i32_818
  let c0_i32_214 : BitVec 32 := 0#32
  let c1_i32_216 : BitVec 32 := 1#32
  let arg7 : BitVec 32 := Scf.iv c0_i32_214 c1_i32_216 k0_t8
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![1, v826.toNat, 48]
def k0_off71 (k0_t8 : Fin k0_t8_loop.trips) (c0_i32_820 : BitVec 32) : Fin 3 → Nat :=
  let c1_i32_821 : BitVec 32 := 1#32
  let v831 : Index := Scalar.indexCast c1_i32_821
  let c0_i32_214 : BitVec 32 := 0#32
  let c1_i32_216 : BitVec 32 := 1#32
  let arg7 : BitVec 32 := Scf.iv c0_i32_214 c1_i32_216 k0_t8
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![1, v832.toNat, 64]
def k0_off72 (k0_t8 : Fin k0_t8_loop.trips) (c0_i32_823 : BitVec 32) : Fin 3 → Nat :=
  let c1_i32_824 : BitVec 32 := 1#32
  let v837 : Index := Scalar.indexCast c1_i32_824
  let c0_i32_214 : BitVec 32 := 0#32
  let c1_i32_216 : BitVec 32 := 1#32
  let arg7 : BitVec 32 := Scf.iv c0_i32_214 c1_i32_216 k0_t8
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![1, v838.toNat, 80]
def k0_off73 (k0_t8 : Fin k0_t8_loop.trips) (c0_i32_826 : BitVec 32) : Fin 3 → Nat :=
  let c1_i32_827 : BitVec 32 := 1#32
  let v843 : Index := Scalar.indexCast c1_i32_827
  let c0_i32_214 : BitVec 32 := 0#32
  let c1_i32_216 : BitVec 32 := 1#32
  let arg7 : BitVec 32 := Scf.iv c0_i32_214 c1_i32_216 k0_t8
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![1, v844.toNat, 96]
def k0_off74 (k0_t8 : Fin k0_t8_loop.trips) (c0_i32_829 : BitVec 32) : Fin 3 → Nat :=
  let c1_i32_830 : BitVec 32 := 1#32
  let v849 : Index := Scalar.indexCast c1_i32_830
  let c0_i32_214 : BitVec 32 := 0#32
  let c1_i32_216 : BitVec 32 := 1#32
  let arg7 : BitVec 32 := Scf.iv c0_i32_214 c1_i32_216 k0_t8
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![1, v850.toNat, 112]
def k0_off75 (i : grid0.Coords) (c0_i32_218 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v217 : BitVec 32 := Scalar.addi v2 c0_i32_218
  let c2560_i32 : BitVec 32 := 2560#32
  let c0_i32_223 : BitVec 32 := 0#32
  ![v217.toNat, 2560, 0]
@[reducible] def k0_t9_loop : Scf.Loop 32 :=
  let c0_i32_238 : BitVec 32 := 0#32
  let c32_i32_239 : BitVec 32 := 32#32
  let v238 : BitVec 32 := Scalar.addi c0_i32_238 c32_i32_239
  let c1_i32_240 : BitVec 32 := 1#32
  ⟨c0_i32_238, v238, c1_i32_240⟩
def k0_off76 (k0_t9 : Fin k0_t9_loop.trips) (c0_i32_808 : BitVec 32) : Fin 3 → Nat :=
  let c2_i32_809 : BitVec 32 := 2#32
  let v807 : Index := Scalar.indexCast c2_i32_809
  let c0_i32_238 : BitVec 32 := 0#32
  let c1_i32_240 : BitVec 32 := 1#32
  let arg7 : BitVec 32 := Scf.iv c0_i32_238 c1_i32_240 k0_t9
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![2, v808.toNat, 0]
def k0_off77 (k0_t9 : Fin k0_t9_loop.trips) (c0_i32_811 : BitVec 32) : Fin 3 → Nat :=
  let c2_i32_812 : BitVec 32 := 2#32
  let v813 : Index := Scalar.indexCast c2_i32_812
  let c0_i32_238 : BitVec 32 := 0#32
  let c1_i32_240 : BitVec 32 := 1#32
  let arg7 : BitVec 32 := Scf.iv c0_i32_238 c1_i32_240 k0_t9
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![2, v814.toNat, 16]
def k0_off78 (k0_t9 : Fin k0_t9_loop.trips) (c0_i32_814 : BitVec 32) : Fin 3 → Nat :=
  let c2_i32_815 : BitVec 32 := 2#32
  let v819 : Index := Scalar.indexCast c2_i32_815
  let c0_i32_238 : BitVec 32 := 0#32
  let c1_i32_240 : BitVec 32 := 1#32
  let arg7 : BitVec 32 := Scf.iv c0_i32_238 c1_i32_240 k0_t9
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![2, v820.toNat, 32]
def k0_off79 (k0_t9 : Fin k0_t9_loop.trips) (c0_i32_817 : BitVec 32) : Fin 3 → Nat :=
  let c2_i32_818 : BitVec 32 := 2#32
  let v825 : Index := Scalar.indexCast c2_i32_818
  let c0_i32_238 : BitVec 32 := 0#32
  let c1_i32_240 : BitVec 32 := 1#32
  let arg7 : BitVec 32 := Scf.iv c0_i32_238 c1_i32_240 k0_t9
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![2, v826.toNat, 48]
def k0_off80 (k0_t9 : Fin k0_t9_loop.trips) (c0_i32_820 : BitVec 32) : Fin 3 → Nat :=
  let c2_i32_821 : BitVec 32 := 2#32
  let v831 : Index := Scalar.indexCast c2_i32_821
  let c0_i32_238 : BitVec 32 := 0#32
  let c1_i32_240 : BitVec 32 := 1#32
  let arg7 : BitVec 32 := Scf.iv c0_i32_238 c1_i32_240 k0_t9
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![2, v832.toNat, 64]
def k0_off81 (k0_t9 : Fin k0_t9_loop.trips) (c0_i32_823 : BitVec 32) : Fin 3 → Nat :=
  let c2_i32_824 : BitVec 32 := 2#32
  let v837 : Index := Scalar.indexCast c2_i32_824
  let c0_i32_238 : BitVec 32 := 0#32
  let c1_i32_240 : BitVec 32 := 1#32
  let arg7 : BitVec 32 := Scf.iv c0_i32_238 c1_i32_240 k0_t9
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![2, v838.toNat, 80]
def k0_off82 (k0_t9 : Fin k0_t9_loop.trips) (c0_i32_826 : BitVec 32) : Fin 3 → Nat :=
  let c2_i32_827 : BitVec 32 := 2#32
  let v843 : Index := Scalar.indexCast c2_i32_827
  let c0_i32_238 : BitVec 32 := 0#32
  let c1_i32_240 : BitVec 32 := 1#32
  let arg7 : BitVec 32 := Scf.iv c0_i32_238 c1_i32_240 k0_t9
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![2, v844.toNat, 96]
def k0_off83 (k0_t9 : Fin k0_t9_loop.trips) (c0_i32_829 : BitVec 32) : Fin 3 → Nat :=
  let c2_i32_830 : BitVec 32 := 2#32
  let v849 : Index := Scalar.indexCast c2_i32_830
  let c0_i32_238 : BitVec 32 := 0#32
  let c1_i32_240 : BitVec 32 := 1#32
  let arg7 : BitVec 32 := Scf.iv c0_i32_238 c1_i32_240 k0_t9
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![2, v850.toNat, 112]
def k0_off84 (i : grid0.Coords) (c0_i32_242 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v240 : BitVec 32 := Scalar.addi v2 c0_i32_242
  let c2816_i32 : BitVec 32 := 2816#32
  let c0_i32_247 : BitVec 32 := 0#32
  ![v240.toNat, 2816, 0]
@[reducible] def k0_t10_loop : Scf.Loop 32 :=
  let c0_i32_262 : BitVec 32 := 0#32
  let c32_i32_263 : BitVec 32 := 32#32
  let v261 : BitVec 32 := Scalar.addi c0_i32_262 c32_i32_263
  let c1_i32_264 : BitVec 32 := 1#32
  ⟨c0_i32_262, v261, c1_i32_264⟩
def k0_off85 (k0_t10 : Fin k0_t10_loop.trips) (c0_i32_808 : BitVec 32) : Fin 3 → Nat :=
  let c0_i32_809 : BitVec 32 := 0#32
  let v807 : Index := Scalar.indexCast c0_i32_809
  let c0_i32_262 : BitVec 32 := 0#32
  let c1_i32_264 : BitVec 32 := 1#32
  let arg7 : BitVec 32 := Scf.iv c0_i32_262 c1_i32_264 k0_t10
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![0, v808.toNat, 0]
def k0_off86 (k0_t10 : Fin k0_t10_loop.trips) (c0_i32_811 : BitVec 32) : Fin 3 → Nat :=
  let c0_i32_812 : BitVec 32 := 0#32
  let v813 : Index := Scalar.indexCast c0_i32_812
  let c0_i32_262 : BitVec 32 := 0#32
  let c1_i32_264 : BitVec 32 := 1#32
  let arg7 : BitVec 32 := Scf.iv c0_i32_262 c1_i32_264 k0_t10
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![0, v814.toNat, 16]
def k0_off87 (k0_t10 : Fin k0_t10_loop.trips) (c0_i32_814 : BitVec 32) : Fin 3 → Nat :=
  let c0_i32_815 : BitVec 32 := 0#32
  let v819 : Index := Scalar.indexCast c0_i32_815
  let c0_i32_262 : BitVec 32 := 0#32
  let c1_i32_264 : BitVec 32 := 1#32
  let arg7 : BitVec 32 := Scf.iv c0_i32_262 c1_i32_264 k0_t10
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![0, v820.toNat, 32]
def k0_off88 (k0_t10 : Fin k0_t10_loop.trips) (c0_i32_817 : BitVec 32) : Fin 3 → Nat :=
  let c0_i32_818 : BitVec 32 := 0#32
  let v825 : Index := Scalar.indexCast c0_i32_818
  let c0_i32_262 : BitVec 32 := 0#32
  let c1_i32_264 : BitVec 32 := 1#32
  let arg7 : BitVec 32 := Scf.iv c0_i32_262 c1_i32_264 k0_t10
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![0, v826.toNat, 48]
def k0_off89 (k0_t10 : Fin k0_t10_loop.trips) (c0_i32_820 : BitVec 32) : Fin 3 → Nat :=
  let c0_i32_821 : BitVec 32 := 0#32
  let v831 : Index := Scalar.indexCast c0_i32_821
  let c0_i32_262 : BitVec 32 := 0#32
  let c1_i32_264 : BitVec 32 := 1#32
  let arg7 : BitVec 32 := Scf.iv c0_i32_262 c1_i32_264 k0_t10
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![0, v832.toNat, 64]
def k0_off90 (k0_t10 : Fin k0_t10_loop.trips) (c0_i32_823 : BitVec 32) : Fin 3 → Nat :=
  let c0_i32_824 : BitVec 32 := 0#32
  let v837 : Index := Scalar.indexCast c0_i32_824
  let c0_i32_262 : BitVec 32 := 0#32
  let c1_i32_264 : BitVec 32 := 1#32
  let arg7 : BitVec 32 := Scf.iv c0_i32_262 c1_i32_264 k0_t10
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![0, v838.toNat, 80]
def k0_off91 (k0_t10 : Fin k0_t10_loop.trips) (c0_i32_826 : BitVec 32) : Fin 3 → Nat :=
  let c0_i32_827 : BitVec 32 := 0#32
  let v843 : Index := Scalar.indexCast c0_i32_827
  let c0_i32_262 : BitVec 32 := 0#32
  let c1_i32_264 : BitVec 32 := 1#32
  let arg7 : BitVec 32 := Scf.iv c0_i32_262 c1_i32_264 k0_t10
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![0, v844.toNat, 96]
def k0_off92 (k0_t10 : Fin k0_t10_loop.trips) (c0_i32_829 : BitVec 32) : Fin 3 → Nat :=
  let c0_i32_830 : BitVec 32 := 0#32
  let v849 : Index := Scalar.indexCast c0_i32_830
  let c0_i32_262 : BitVec 32 := 0#32
  let c1_i32_264 : BitVec 32 := 1#32
  let arg7 : BitVec 32 := Scf.iv c0_i32_262 c1_i32_264 k0_t10
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![0, v850.toNat, 112]
def k0_off93 (i : grid0.Coords) (c0_i32_266 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v263 : BitVec 32 := Scalar.addi v2 c0_i32_266
  let c3072_i32 : BitVec 32 := 3072#32
  let c0_i32_271 : BitVec 32 := 0#32
  ![v263.toNat, 3072, 0]
@[reducible] def k0_t11_loop : Scf.Loop 32 :=
  let c0_i32_286 : BitVec 32 := 0#32
  let c32_i32_287 : BitVec 32 := 32#32
  let v284 : BitVec 32 := Scalar.addi c0_i32_286 c32_i32_287
  let c1_i32_288 : BitVec 32 := 1#32
  ⟨c0_i32_286, v284, c1_i32_288⟩
def k0_off94 (k0_t11 : Fin k0_t11_loop.trips) (c0_i32_808 : BitVec 32) : Fin 3 → Nat :=
  let c1_i32_809 : BitVec 32 := 1#32
  let v807 : Index := Scalar.indexCast c1_i32_809
  let c0_i32_286 : BitVec 32 := 0#32
  let c1_i32_288 : BitVec 32 := 1#32
  let arg7 : BitVec 32 := Scf.iv c0_i32_286 c1_i32_288 k0_t11
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![1, v808.toNat, 0]
def k0_off95 (k0_t11 : Fin k0_t11_loop.trips) (c0_i32_811 : BitVec 32) : Fin 3 → Nat :=
  let c1_i32_812 : BitVec 32 := 1#32
  let v813 : Index := Scalar.indexCast c1_i32_812
  let c0_i32_286 : BitVec 32 := 0#32
  let c1_i32_288 : BitVec 32 := 1#32
  let arg7 : BitVec 32 := Scf.iv c0_i32_286 c1_i32_288 k0_t11
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![1, v814.toNat, 16]
def k0_off96 (k0_t11 : Fin k0_t11_loop.trips) (c0_i32_814 : BitVec 32) : Fin 3 → Nat :=
  let c1_i32_815 : BitVec 32 := 1#32
  let v819 : Index := Scalar.indexCast c1_i32_815
  let c0_i32_286 : BitVec 32 := 0#32
  let c1_i32_288 : BitVec 32 := 1#32
  let arg7 : BitVec 32 := Scf.iv c0_i32_286 c1_i32_288 k0_t11
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![1, v820.toNat, 32]
def k0_off97 (k0_t11 : Fin k0_t11_loop.trips) (c0_i32_817 : BitVec 32) : Fin 3 → Nat :=
  let c1_i32_818 : BitVec 32 := 1#32
  let v825 : Index := Scalar.indexCast c1_i32_818
  let c0_i32_286 : BitVec 32 := 0#32
  let c1_i32_288 : BitVec 32 := 1#32
  let arg7 : BitVec 32 := Scf.iv c0_i32_286 c1_i32_288 k0_t11
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![1, v826.toNat, 48]
def k0_off98 (k0_t11 : Fin k0_t11_loop.trips) (c0_i32_820 : BitVec 32) : Fin 3 → Nat :=
  let c1_i32_821 : BitVec 32 := 1#32
  let v831 : Index := Scalar.indexCast c1_i32_821
  let c0_i32_286 : BitVec 32 := 0#32
  let c1_i32_288 : BitVec 32 := 1#32
  let arg7 : BitVec 32 := Scf.iv c0_i32_286 c1_i32_288 k0_t11
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![1, v832.toNat, 64]
def k0_off99 (k0_t11 : Fin k0_t11_loop.trips) (c0_i32_823 : BitVec 32) : Fin 3 → Nat :=
  let c1_i32_824 : BitVec 32 := 1#32
  let v837 : Index := Scalar.indexCast c1_i32_824
  let c0_i32_286 : BitVec 32 := 0#32
  let c1_i32_288 : BitVec 32 := 1#32
  let arg7 : BitVec 32 := Scf.iv c0_i32_286 c1_i32_288 k0_t11
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![1, v838.toNat, 80]
def k0_off100 (k0_t11 : Fin k0_t11_loop.trips) (c0_i32_826 : BitVec 32) : Fin 3 → Nat :=
  let c1_i32_827 : BitVec 32 := 1#32
  let v843 : Index := Scalar.indexCast c1_i32_827
  let c0_i32_286 : BitVec 32 := 0#32
  let c1_i32_288 : BitVec 32 := 1#32
  let arg7 : BitVec 32 := Scf.iv c0_i32_286 c1_i32_288 k0_t11
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![1, v844.toNat, 96]
def k0_off101 (k0_t11 : Fin k0_t11_loop.trips) (c0_i32_829 : BitVec 32) : Fin 3 → Nat :=
  let c1_i32_830 : BitVec 32 := 1#32
  let v849 : Index := Scalar.indexCast c1_i32_830
  let c0_i32_286 : BitVec 32 := 0#32
  let c1_i32_288 : BitVec 32 := 1#32
  let arg7 : BitVec 32 := Scf.iv c0_i32_286 c1_i32_288 k0_t11
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![1, v850.toNat, 112]
def k0_off102 (i : grid0.Coords) (c0_i32_290 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v286 : BitVec 32 := Scalar.addi v2 c0_i32_290
  let c3328_i32 : BitVec 32 := 3328#32
  let c0_i32_295 : BitVec 32 := 0#32
  ![v286.toNat, 3328, 0]
@[reducible] def k0_t12_loop : Scf.Loop 32 :=
  let c0_i32_310 : BitVec 32 := 0#32
  let c32_i32_311 : BitVec 32 := 32#32
  let v307 : BitVec 32 := Scalar.addi c0_i32_310 c32_i32_311
  let c1_i32_312 : BitVec 32 := 1#32
  ⟨c0_i32_310, v307, c1_i32_312⟩
def k0_off103 (k0_t12 : Fin k0_t12_loop.trips) (c0_i32_808 : BitVec 32) : Fin 3 → Nat :=
  let c2_i32_809 : BitVec 32 := 2#32
  let v807 : Index := Scalar.indexCast c2_i32_809
  let c0_i32_310 : BitVec 32 := 0#32
  let c1_i32_312 : BitVec 32 := 1#32
  let arg7 : BitVec 32 := Scf.iv c0_i32_310 c1_i32_312 k0_t12
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![2, v808.toNat, 0]
def k0_off104 (k0_t12 : Fin k0_t12_loop.trips) (c0_i32_811 : BitVec 32) : Fin 3 → Nat :=
  let c2_i32_812 : BitVec 32 := 2#32
  let v813 : Index := Scalar.indexCast c2_i32_812
  let c0_i32_310 : BitVec 32 := 0#32
  let c1_i32_312 : BitVec 32 := 1#32
  let arg7 : BitVec 32 := Scf.iv c0_i32_310 c1_i32_312 k0_t12
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![2, v814.toNat, 16]
def k0_off105 (k0_t12 : Fin k0_t12_loop.trips) (c0_i32_814 : BitVec 32) : Fin 3 → Nat :=
  let c2_i32_815 : BitVec 32 := 2#32
  let v819 : Index := Scalar.indexCast c2_i32_815
  let c0_i32_310 : BitVec 32 := 0#32
  let c1_i32_312 : BitVec 32 := 1#32
  let arg7 : BitVec 32 := Scf.iv c0_i32_310 c1_i32_312 k0_t12
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![2, v820.toNat, 32]
def k0_off106 (k0_t12 : Fin k0_t12_loop.trips) (c0_i32_817 : BitVec 32) : Fin 3 → Nat :=
  let c2_i32_818 : BitVec 32 := 2#32
  let v825 : Index := Scalar.indexCast c2_i32_818
  let c0_i32_310 : BitVec 32 := 0#32
  let c1_i32_312 : BitVec 32 := 1#32
  let arg7 : BitVec 32 := Scf.iv c0_i32_310 c1_i32_312 k0_t12
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![2, v826.toNat, 48]
def k0_off107 (k0_t12 : Fin k0_t12_loop.trips) (c0_i32_820 : BitVec 32) : Fin 3 → Nat :=
  let c2_i32_821 : BitVec 32 := 2#32
  let v831 : Index := Scalar.indexCast c2_i32_821
  let c0_i32_310 : BitVec 32 := 0#32
  let c1_i32_312 : BitVec 32 := 1#32
  let arg7 : BitVec 32 := Scf.iv c0_i32_310 c1_i32_312 k0_t12
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![2, v832.toNat, 64]
def k0_off108 (k0_t12 : Fin k0_t12_loop.trips) (c0_i32_823 : BitVec 32) : Fin 3 → Nat :=
  let c2_i32_824 : BitVec 32 := 2#32
  let v837 : Index := Scalar.indexCast c2_i32_824
  let c0_i32_310 : BitVec 32 := 0#32
  let c1_i32_312 : BitVec 32 := 1#32
  let arg7 : BitVec 32 := Scf.iv c0_i32_310 c1_i32_312 k0_t12
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![2, v838.toNat, 80]
def k0_off109 (k0_t12 : Fin k0_t12_loop.trips) (c0_i32_826 : BitVec 32) : Fin 3 → Nat :=
  let c2_i32_827 : BitVec 32 := 2#32
  let v843 : Index := Scalar.indexCast c2_i32_827
  let c0_i32_310 : BitVec 32 := 0#32
  let c1_i32_312 : BitVec 32 := 1#32
  let arg7 : BitVec 32 := Scf.iv c0_i32_310 c1_i32_312 k0_t12
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![2, v844.toNat, 96]
def k0_off110 (k0_t12 : Fin k0_t12_loop.trips) (c0_i32_829 : BitVec 32) : Fin 3 → Nat :=
  let c2_i32_830 : BitVec 32 := 2#32
  let v849 : Index := Scalar.indexCast c2_i32_830
  let c0_i32_310 : BitVec 32 := 0#32
  let c1_i32_312 : BitVec 32 := 1#32
  let arg7 : BitVec 32 := Scf.iv c0_i32_310 c1_i32_312 k0_t12
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![2, v850.toNat, 112]
def k0_off111 (i : grid0.Coords) (c0_i32_314 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v309 : BitVec 32 := Scalar.addi v2 c0_i32_314
  let c3584_i32 : BitVec 32 := 3584#32
  let c0_i32_319 : BitVec 32 := 0#32
  ![v309.toNat, 3584, 0]
@[reducible] def k0_t13_loop : Scf.Loop 32 :=
  let c0_i32_334 : BitVec 32 := 0#32
  let c32_i32_335 : BitVec 32 := 32#32
  let v330 : BitVec 32 := Scalar.addi c0_i32_334 c32_i32_335
  let c1_i32_336 : BitVec 32 := 1#32
  ⟨c0_i32_334, v330, c1_i32_336⟩
def k0_off112 (k0_t13 : Fin k0_t13_loop.trips) (c0_i32_808 : BitVec 32) : Fin 3 → Nat :=
  let c0_i32_809 : BitVec 32 := 0#32
  let v807 : Index := Scalar.indexCast c0_i32_809
  let c0_i32_334 : BitVec 32 := 0#32
  let c1_i32_336 : BitVec 32 := 1#32
  let arg7 : BitVec 32 := Scf.iv c0_i32_334 c1_i32_336 k0_t13
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![0, v808.toNat, 0]
def k0_off113 (k0_t13 : Fin k0_t13_loop.trips) (c0_i32_811 : BitVec 32) : Fin 3 → Nat :=
  let c0_i32_812 : BitVec 32 := 0#32
  let v813 : Index := Scalar.indexCast c0_i32_812
  let c0_i32_334 : BitVec 32 := 0#32
  let c1_i32_336 : BitVec 32 := 1#32
  let arg7 : BitVec 32 := Scf.iv c0_i32_334 c1_i32_336 k0_t13
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![0, v814.toNat, 16]
def k0_off114 (k0_t13 : Fin k0_t13_loop.trips) (c0_i32_814 : BitVec 32) : Fin 3 → Nat :=
  let c0_i32_815 : BitVec 32 := 0#32
  let v819 : Index := Scalar.indexCast c0_i32_815
  let c0_i32_334 : BitVec 32 := 0#32
  let c1_i32_336 : BitVec 32 := 1#32
  let arg7 : BitVec 32 := Scf.iv c0_i32_334 c1_i32_336 k0_t13
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![0, v820.toNat, 32]
def k0_off115 (k0_t13 : Fin k0_t13_loop.trips) (c0_i32_817 : BitVec 32) : Fin 3 → Nat :=
  let c0_i32_818 : BitVec 32 := 0#32
  let v825 : Index := Scalar.indexCast c0_i32_818
  let c0_i32_334 : BitVec 32 := 0#32
  let c1_i32_336 : BitVec 32 := 1#32
  let arg7 : BitVec 32 := Scf.iv c0_i32_334 c1_i32_336 k0_t13
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![0, v826.toNat, 48]
def k0_off116 (k0_t13 : Fin k0_t13_loop.trips) (c0_i32_820 : BitVec 32) : Fin 3 → Nat :=
  let c0_i32_821 : BitVec 32 := 0#32
  let v831 : Index := Scalar.indexCast c0_i32_821
  let c0_i32_334 : BitVec 32 := 0#32
  let c1_i32_336 : BitVec 32 := 1#32
  let arg7 : BitVec 32 := Scf.iv c0_i32_334 c1_i32_336 k0_t13
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![0, v832.toNat, 64]
def k0_off117 (k0_t13 : Fin k0_t13_loop.trips) (c0_i32_823 : BitVec 32) : Fin 3 → Nat :=
  let c0_i32_824 : BitVec 32 := 0#32
  let v837 : Index := Scalar.indexCast c0_i32_824
  let c0_i32_334 : BitVec 32 := 0#32
  let c1_i32_336 : BitVec 32 := 1#32
  let arg7 : BitVec 32 := Scf.iv c0_i32_334 c1_i32_336 k0_t13
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![0, v838.toNat, 80]
def k0_off118 (k0_t13 : Fin k0_t13_loop.trips) (c0_i32_826 : BitVec 32) : Fin 3 → Nat :=
  let c0_i32_827 : BitVec 32 := 0#32
  let v843 : Index := Scalar.indexCast c0_i32_827
  let c0_i32_334 : BitVec 32 := 0#32
  let c1_i32_336 : BitVec 32 := 1#32
  let arg7 : BitVec 32 := Scf.iv c0_i32_334 c1_i32_336 k0_t13
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![0, v844.toNat, 96]
def k0_off119 (k0_t13 : Fin k0_t13_loop.trips) (c0_i32_829 : BitVec 32) : Fin 3 → Nat :=
  let c0_i32_830 : BitVec 32 := 0#32
  let v849 : Index := Scalar.indexCast c0_i32_830
  let c0_i32_334 : BitVec 32 := 0#32
  let c1_i32_336 : BitVec 32 := 1#32
  let arg7 : BitVec 32 := Scf.iv c0_i32_334 c1_i32_336 k0_t13
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![0, v850.toNat, 112]
def k0_off120 (i : grid0.Coords) (c0_i32_338 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v332 : BitVec 32 := Scalar.addi v2 c0_i32_338
  let c3840_i32 : BitVec 32 := 3840#32
  let c0_i32_343 : BitVec 32 := 0#32
  ![v332.toNat, 3840, 0]
@[reducible] def k0_t14_loop : Scf.Loop 32 :=
  let c0_i32_358 : BitVec 32 := 0#32
  let c32_i32_359 : BitVec 32 := 32#32
  let v353 : BitVec 32 := Scalar.addi c0_i32_358 c32_i32_359
  let c1_i32_360 : BitVec 32 := 1#32
  ⟨c0_i32_358, v353, c1_i32_360⟩
def k0_off121 (k0_t14 : Fin k0_t14_loop.trips) (c0_i32_808 : BitVec 32) : Fin 3 → Nat :=
  let c1_i32_809 : BitVec 32 := 1#32
  let v807 : Index := Scalar.indexCast c1_i32_809
  let c0_i32_358 : BitVec 32 := 0#32
  let c1_i32_360 : BitVec 32 := 1#32
  let arg7 : BitVec 32 := Scf.iv c0_i32_358 c1_i32_360 k0_t14
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![1, v808.toNat, 0]
def k0_off122 (k0_t14 : Fin k0_t14_loop.trips) (c0_i32_811 : BitVec 32) : Fin 3 → Nat :=
  let c1_i32_812 : BitVec 32 := 1#32
  let v813 : Index := Scalar.indexCast c1_i32_812
  let c0_i32_358 : BitVec 32 := 0#32
  let c1_i32_360 : BitVec 32 := 1#32
  let arg7 : BitVec 32 := Scf.iv c0_i32_358 c1_i32_360 k0_t14
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![1, v814.toNat, 16]
def k0_off123 (k0_t14 : Fin k0_t14_loop.trips) (c0_i32_814 : BitVec 32) : Fin 3 → Nat :=
  let c1_i32_815 : BitVec 32 := 1#32
  let v819 : Index := Scalar.indexCast c1_i32_815
  let c0_i32_358 : BitVec 32 := 0#32
  let c1_i32_360 : BitVec 32 := 1#32
  let arg7 : BitVec 32 := Scf.iv c0_i32_358 c1_i32_360 k0_t14
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![1, v820.toNat, 32]
def k0_off124 (k0_t14 : Fin k0_t14_loop.trips) (c0_i32_817 : BitVec 32) : Fin 3 → Nat :=
  let c1_i32_818 : BitVec 32 := 1#32
  let v825 : Index := Scalar.indexCast c1_i32_818
  let c0_i32_358 : BitVec 32 := 0#32
  let c1_i32_360 : BitVec 32 := 1#32
  let arg7 : BitVec 32 := Scf.iv c0_i32_358 c1_i32_360 k0_t14
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![1, v826.toNat, 48]
def k0_off125 (k0_t14 : Fin k0_t14_loop.trips) (c0_i32_820 : BitVec 32) : Fin 3 → Nat :=
  let c1_i32_821 : BitVec 32 := 1#32
  let v831 : Index := Scalar.indexCast c1_i32_821
  let c0_i32_358 : BitVec 32 := 0#32
  let c1_i32_360 : BitVec 32 := 1#32
  let arg7 : BitVec 32 := Scf.iv c0_i32_358 c1_i32_360 k0_t14
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![1, v832.toNat, 64]
def k0_off126 (k0_t14 : Fin k0_t14_loop.trips) (c0_i32_823 : BitVec 32) : Fin 3 → Nat :=
  let c1_i32_824 : BitVec 32 := 1#32
  let v837 : Index := Scalar.indexCast c1_i32_824
  let c0_i32_358 : BitVec 32 := 0#32
  let c1_i32_360 : BitVec 32 := 1#32
  let arg7 : BitVec 32 := Scf.iv c0_i32_358 c1_i32_360 k0_t14
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![1, v838.toNat, 80]
def k0_off127 (k0_t14 : Fin k0_t14_loop.trips) (c0_i32_826 : BitVec 32) : Fin 3 → Nat :=
  let c1_i32_827 : BitVec 32 := 1#32
  let v843 : Index := Scalar.indexCast c1_i32_827
  let c0_i32_358 : BitVec 32 := 0#32
  let c1_i32_360 : BitVec 32 := 1#32
  let arg7 : BitVec 32 := Scf.iv c0_i32_358 c1_i32_360 k0_t14
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![1, v844.toNat, 96]
def k0_off128 (k0_t14 : Fin k0_t14_loop.trips) (c0_i32_829 : BitVec 32) : Fin 3 → Nat :=
  let c1_i32_830 : BitVec 32 := 1#32
  let v849 : Index := Scalar.indexCast c1_i32_830
  let c0_i32_358 : BitVec 32 := 0#32
  let c1_i32_360 : BitVec 32 := 1#32
  let arg7 : BitVec 32 := Scf.iv c0_i32_358 c1_i32_360 k0_t14
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![1, v850.toNat, 112]
@[reducible] def k0_t15_loop : Scf.Loop 32 :=
  let c0_i32_383 : BitVec 32 := 0#32
  let c32_i32_384 : BitVec 32 := 32#32
  let v376 : BitVec 32 := Scalar.addi c0_i32_383 c32_i32_384
  let c1_i32_385 : BitVec 32 := 1#32
  ⟨c0_i32_383, v376, c1_i32_385⟩
def k0_off129 (k0_t15 : Fin k0_t15_loop.trips) (c0_i32_808 : BitVec 32) : Fin 3 → Nat :=
  let c2_i32_809 : BitVec 32 := 2#32
  let v807 : Index := Scalar.indexCast c2_i32_809
  let c0_i32_383 : BitVec 32 := 0#32
  let c1_i32_385 : BitVec 32 := 1#32
  let arg7 : BitVec 32 := Scf.iv c0_i32_383 c1_i32_385 k0_t15
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![2, v808.toNat, 0]
def k0_off130 (k0_t15 : Fin k0_t15_loop.trips) (c0_i32_811 : BitVec 32) : Fin 3 → Nat :=
  let c2_i32_812 : BitVec 32 := 2#32
  let v813 : Index := Scalar.indexCast c2_i32_812
  let c0_i32_383 : BitVec 32 := 0#32
  let c1_i32_385 : BitVec 32 := 1#32
  let arg7 : BitVec 32 := Scf.iv c0_i32_383 c1_i32_385 k0_t15
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![2, v814.toNat, 16]
def k0_off131 (k0_t15 : Fin k0_t15_loop.trips) (c0_i32_814 : BitVec 32) : Fin 3 → Nat :=
  let c2_i32_815 : BitVec 32 := 2#32
  let v819 : Index := Scalar.indexCast c2_i32_815
  let c0_i32_383 : BitVec 32 := 0#32
  let c1_i32_385 : BitVec 32 := 1#32
  let arg7 : BitVec 32 := Scf.iv c0_i32_383 c1_i32_385 k0_t15
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![2, v820.toNat, 32]
def k0_off132 (k0_t15 : Fin k0_t15_loop.trips) (c0_i32_817 : BitVec 32) : Fin 3 → Nat :=
  let c2_i32_818 : BitVec 32 := 2#32
  let v825 : Index := Scalar.indexCast c2_i32_818
  let c0_i32_383 : BitVec 32 := 0#32
  let c1_i32_385 : BitVec 32 := 1#32
  let arg7 : BitVec 32 := Scf.iv c0_i32_383 c1_i32_385 k0_t15
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![2, v826.toNat, 48]
def k0_off133 (k0_t15 : Fin k0_t15_loop.trips) (c0_i32_820 : BitVec 32) : Fin 3 → Nat :=
  let c2_i32_821 : BitVec 32 := 2#32
  let v831 : Index := Scalar.indexCast c2_i32_821
  let c0_i32_383 : BitVec 32 := 0#32
  let c1_i32_385 : BitVec 32 := 1#32
  let arg7 : BitVec 32 := Scf.iv c0_i32_383 c1_i32_385 k0_t15
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![2, v832.toNat, 64]
def k0_off134 (k0_t15 : Fin k0_t15_loop.trips) (c0_i32_823 : BitVec 32) : Fin 3 → Nat :=
  let c2_i32_824 : BitVec 32 := 2#32
  let v837 : Index := Scalar.indexCast c2_i32_824
  let c0_i32_383 : BitVec 32 := 0#32
  let c1_i32_385 : BitVec 32 := 1#32
  let arg7 : BitVec 32 := Scf.iv c0_i32_383 c1_i32_385 k0_t15
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![2, v838.toNat, 80]
def k0_off135 (k0_t15 : Fin k0_t15_loop.trips) (c0_i32_826 : BitVec 32) : Fin 3 → Nat :=
  let c2_i32_827 : BitVec 32 := 2#32
  let v843 : Index := Scalar.indexCast c2_i32_827
  let c0_i32_383 : BitVec 32 := 0#32
  let c1_i32_385 : BitVec 32 := 1#32
  let arg7 : BitVec 32 := Scf.iv c0_i32_383 c1_i32_385 k0_t15
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![2, v844.toNat, 96]
def k0_off136 (k0_t15 : Fin k0_t15_loop.trips) (c0_i32_829 : BitVec 32) : Fin 3 → Nat :=
  let c2_i32_830 : BitVec 32 := 2#32
  let v849 : Index := Scalar.indexCast c2_i32_830
  let c0_i32_383 : BitVec 32 := 0#32
  let c1_i32_385 : BitVec 32 := 1#32
  let arg7 : BitVec 32 := Scf.iv c0_i32_383 c1_i32_385 k0_t15
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![2, v850.toNat, 112]
@[reducible] def k0_t16_loop : Scf.Loop 32 :=
  let c0_i32_408 : BitVec 32 := 0#32
  let c32_i32_409 : BitVec 32 := 32#32
  let v399 : BitVec 32 := Scalar.addi c0_i32_408 c32_i32_409
  let c1_i32_410 : BitVec 32 := 1#32
  ⟨c0_i32_408, v399, c1_i32_410⟩
def k0_off137 (k0_t16 : Fin k0_t16_loop.trips) (c0_i32_808 : BitVec 32) : Fin 3 → Nat :=
  let c0_i32_809 : BitVec 32 := 0#32
  let v807 : Index := Scalar.indexCast c0_i32_809
  let c0_i32_408 : BitVec 32 := 0#32
  let c1_i32_410 : BitVec 32 := 1#32
  let arg7 : BitVec 32 := Scf.iv c0_i32_408 c1_i32_410 k0_t16
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![0, v808.toNat, 0]
def k0_off138 (k0_t16 : Fin k0_t16_loop.trips) (c0_i32_811 : BitVec 32) : Fin 3 → Nat :=
  let c0_i32_812 : BitVec 32 := 0#32
  let v813 : Index := Scalar.indexCast c0_i32_812
  let c0_i32_408 : BitVec 32 := 0#32
  let c1_i32_410 : BitVec 32 := 1#32
  let arg7 : BitVec 32 := Scf.iv c0_i32_408 c1_i32_410 k0_t16
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![0, v814.toNat, 16]
def k0_off139 (k0_t16 : Fin k0_t16_loop.trips) (c0_i32_814 : BitVec 32) : Fin 3 → Nat :=
  let c0_i32_815 : BitVec 32 := 0#32
  let v819 : Index := Scalar.indexCast c0_i32_815
  let c0_i32_408 : BitVec 32 := 0#32
  let c1_i32_410 : BitVec 32 := 1#32
  let arg7 : BitVec 32 := Scf.iv c0_i32_408 c1_i32_410 k0_t16
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![0, v820.toNat, 32]
def k0_off140 (k0_t16 : Fin k0_t16_loop.trips) (c0_i32_817 : BitVec 32) : Fin 3 → Nat :=
  let c0_i32_818 : BitVec 32 := 0#32
  let v825 : Index := Scalar.indexCast c0_i32_818
  let c0_i32_408 : BitVec 32 := 0#32
  let c1_i32_410 : BitVec 32 := 1#32
  let arg7 : BitVec 32 := Scf.iv c0_i32_408 c1_i32_410 k0_t16
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![0, v826.toNat, 48]
def k0_off141 (k0_t16 : Fin k0_t16_loop.trips) (c0_i32_820 : BitVec 32) : Fin 3 → Nat :=
  let c0_i32_821 : BitVec 32 := 0#32
  let v831 : Index := Scalar.indexCast c0_i32_821
  let c0_i32_408 : BitVec 32 := 0#32
  let c1_i32_410 : BitVec 32 := 1#32
  let arg7 : BitVec 32 := Scf.iv c0_i32_408 c1_i32_410 k0_t16
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![0, v832.toNat, 64]
def k0_off142 (k0_t16 : Fin k0_t16_loop.trips) (c0_i32_823 : BitVec 32) : Fin 3 → Nat :=
  let c0_i32_824 : BitVec 32 := 0#32
  let v837 : Index := Scalar.indexCast c0_i32_824
  let c0_i32_408 : BitVec 32 := 0#32
  let c1_i32_410 : BitVec 32 := 1#32
  let arg7 : BitVec 32 := Scf.iv c0_i32_408 c1_i32_410 k0_t16
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![0, v838.toNat, 80]
def k0_off143 (k0_t16 : Fin k0_t16_loop.trips) (c0_i32_826 : BitVec 32) : Fin 3 → Nat :=
  let c0_i32_827 : BitVec 32 := 0#32
  let v843 : Index := Scalar.indexCast c0_i32_827
  let c0_i32_408 : BitVec 32 := 0#32
  let c1_i32_410 : BitVec 32 := 1#32
  let arg7 : BitVec 32 := Scf.iv c0_i32_408 c1_i32_410 k0_t16
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![0, v844.toNat, 96]
def k0_off144 (k0_t16 : Fin k0_t16_loop.trips) (c0_i32_829 : BitVec 32) : Fin 3 → Nat :=
  let c0_i32_830 : BitVec 32 := 0#32
  let v849 : Index := Scalar.indexCast c0_i32_830
  let c0_i32_408 : BitVec 32 := 0#32
  let c1_i32_410 : BitVec 32 := 1#32
  let arg7 : BitVec 32 := Scf.iv c0_i32_408 c1_i32_410 k0_t16
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![0, v850.toNat, 112]
def k0_off145 (i : grid0.Coords) (c0_i32_412 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v425 : BitVec 32 := Scalar.addi v2 c0_i32_412
  let c0_i32_808_r0 : BitVec 32 := 0#32
  ![v425.toNat, 0]
@[reducible] def k0_t17_loop : Scf.Loop 32 :=
  let c0_i32_442 : BitVec 32 := 0#32
  let c32_i32_443 : BitVec 32 := 32#32
  let v455 : BitVec 32 := Scalar.addi c0_i32_442 c32_i32_443
  let c1_i32_444 : BitVec 32 := 1#32
  ⟨c0_i32_442, v455, c1_i32_444⟩
def k0_off146 (k0_t17 : Fin k0_t17_loop.trips) (c0_i32_808 : BitVec 32) : Fin 3 → Nat :=
  let c1_i32_809 : BitVec 32 := 1#32
  let v807 : Index := Scalar.indexCast c1_i32_809
  let c0_i32_442 : BitVec 32 := 0#32
  let c1_i32_444 : BitVec 32 := 1#32
  let arg7 : BitVec 32 := Scf.iv c0_i32_442 c1_i32_444 k0_t17
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![1, v808.toNat, 0]
def k0_off147 (k0_t17 : Fin k0_t17_loop.trips) (c0_i32_811 : BitVec 32) : Fin 3 → Nat :=
  let c1_i32_812 : BitVec 32 := 1#32
  let v813 : Index := Scalar.indexCast c1_i32_812
  let c0_i32_442 : BitVec 32 := 0#32
  let c1_i32_444 : BitVec 32 := 1#32
  let arg7 : BitVec 32 := Scf.iv c0_i32_442 c1_i32_444 k0_t17
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![1, v814.toNat, 16]
def k0_off148 (k0_t17 : Fin k0_t17_loop.trips) (c0_i32_814 : BitVec 32) : Fin 3 → Nat :=
  let c1_i32_815 : BitVec 32 := 1#32
  let v819 : Index := Scalar.indexCast c1_i32_815
  let c0_i32_442 : BitVec 32 := 0#32
  let c1_i32_444 : BitVec 32 := 1#32
  let arg7 : BitVec 32 := Scf.iv c0_i32_442 c1_i32_444 k0_t17
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![1, v820.toNat, 32]
def k0_off149 (k0_t17 : Fin k0_t17_loop.trips) (c0_i32_817 : BitVec 32) : Fin 3 → Nat :=
  let c1_i32_818 : BitVec 32 := 1#32
  let v825 : Index := Scalar.indexCast c1_i32_818
  let c0_i32_442 : BitVec 32 := 0#32
  let c1_i32_444 : BitVec 32 := 1#32
  let arg7 : BitVec 32 := Scf.iv c0_i32_442 c1_i32_444 k0_t17
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![1, v826.toNat, 48]
def k0_off150 (k0_t17 : Fin k0_t17_loop.trips) (c0_i32_820 : BitVec 32) : Fin 3 → Nat :=
  let c1_i32_821 : BitVec 32 := 1#32
  let v831 : Index := Scalar.indexCast c1_i32_821
  let c0_i32_442 : BitVec 32 := 0#32
  let c1_i32_444 : BitVec 32 := 1#32
  let arg7 : BitVec 32 := Scf.iv c0_i32_442 c1_i32_444 k0_t17
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![1, v832.toNat, 64]
def k0_off151 (k0_t17 : Fin k0_t17_loop.trips) (c0_i32_823 : BitVec 32) : Fin 3 → Nat :=
  let c1_i32_824 : BitVec 32 := 1#32
  let v837 : Index := Scalar.indexCast c1_i32_824
  let c0_i32_442 : BitVec 32 := 0#32
  let c1_i32_444 : BitVec 32 := 1#32
  let arg7 : BitVec 32 := Scf.iv c0_i32_442 c1_i32_444 k0_t17
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![1, v838.toNat, 80]
def k0_off152 (k0_t17 : Fin k0_t17_loop.trips) (c0_i32_826 : BitVec 32) : Fin 3 → Nat :=
  let c1_i32_827 : BitVec 32 := 1#32
  let v843 : Index := Scalar.indexCast c1_i32_827
  let c0_i32_442 : BitVec 32 := 0#32
  let c1_i32_444 : BitVec 32 := 1#32
  let arg7 : BitVec 32 := Scf.iv c0_i32_442 c1_i32_444 k0_t17
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![1, v844.toNat, 96]
def k0_off153 (k0_t17 : Fin k0_t17_loop.trips) (c0_i32_829 : BitVec 32) : Fin 3 → Nat :=
  let c1_i32_830 : BitVec 32 := 1#32
  let v849 : Index := Scalar.indexCast c1_i32_830
  let c0_i32_442 : BitVec 32 := 0#32
  let c1_i32_444 : BitVec 32 := 1#32
  let arg7 : BitVec 32 := Scf.iv c0_i32_442 c1_i32_444 k0_t17
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![1, v850.toNat, 112]
@[reducible] def k0_t18_loop : Scf.Loop 32 :=
  let c0_i32_467 : BitVec 32 := 0#32
  let c32_i32_468 : BitVec 32 := 32#32
  let v478 : BitVec 32 := Scalar.addi c0_i32_467 c32_i32_468
  let c1_i32_469 : BitVec 32 := 1#32
  ⟨c0_i32_467, v478, c1_i32_469⟩
def k0_off154 (k0_t18 : Fin k0_t18_loop.trips) (c0_i32_808 : BitVec 32) : Fin 3 → Nat :=
  let c2_i32_809 : BitVec 32 := 2#32
  let v807 : Index := Scalar.indexCast c2_i32_809
  let c0_i32_467 : BitVec 32 := 0#32
  let c1_i32_469 : BitVec 32 := 1#32
  let arg7 : BitVec 32 := Scf.iv c0_i32_467 c1_i32_469 k0_t18
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![2, v808.toNat, 0]
def k0_off155 (k0_t18 : Fin k0_t18_loop.trips) (c0_i32_811 : BitVec 32) : Fin 3 → Nat :=
  let c2_i32_812 : BitVec 32 := 2#32
  let v813 : Index := Scalar.indexCast c2_i32_812
  let c0_i32_467 : BitVec 32 := 0#32
  let c1_i32_469 : BitVec 32 := 1#32
  let arg7 : BitVec 32 := Scf.iv c0_i32_467 c1_i32_469 k0_t18
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![2, v814.toNat, 16]
def k0_off156 (k0_t18 : Fin k0_t18_loop.trips) (c0_i32_814 : BitVec 32) : Fin 3 → Nat :=
  let c2_i32_815 : BitVec 32 := 2#32
  let v819 : Index := Scalar.indexCast c2_i32_815
  let c0_i32_467 : BitVec 32 := 0#32
  let c1_i32_469 : BitVec 32 := 1#32
  let arg7 : BitVec 32 := Scf.iv c0_i32_467 c1_i32_469 k0_t18
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![2, v820.toNat, 32]
def k0_off157 (k0_t18 : Fin k0_t18_loop.trips) (c0_i32_817 : BitVec 32) : Fin 3 → Nat :=
  let c2_i32_818 : BitVec 32 := 2#32
  let v825 : Index := Scalar.indexCast c2_i32_818
  let c0_i32_467 : BitVec 32 := 0#32
  let c1_i32_469 : BitVec 32 := 1#32
  let arg7 : BitVec 32 := Scf.iv c0_i32_467 c1_i32_469 k0_t18
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![2, v826.toNat, 48]
def k0_off158 (k0_t18 : Fin k0_t18_loop.trips) (c0_i32_820 : BitVec 32) : Fin 3 → Nat :=
  let c2_i32_821 : BitVec 32 := 2#32
  let v831 : Index := Scalar.indexCast c2_i32_821
  let c0_i32_467 : BitVec 32 := 0#32
  let c1_i32_469 : BitVec 32 := 1#32
  let arg7 : BitVec 32 := Scf.iv c0_i32_467 c1_i32_469 k0_t18
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![2, v832.toNat, 64]
def k0_off159 (k0_t18 : Fin k0_t18_loop.trips) (c0_i32_823 : BitVec 32) : Fin 3 → Nat :=
  let c2_i32_824 : BitVec 32 := 2#32
  let v837 : Index := Scalar.indexCast c2_i32_824
  let c0_i32_467 : BitVec 32 := 0#32
  let c1_i32_469 : BitVec 32 := 1#32
  let arg7 : BitVec 32 := Scf.iv c0_i32_467 c1_i32_469 k0_t18
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![2, v838.toNat, 80]
def k0_off160 (k0_t18 : Fin k0_t18_loop.trips) (c0_i32_826 : BitVec 32) : Fin 3 → Nat :=
  let c2_i32_827 : BitVec 32 := 2#32
  let v843 : Index := Scalar.indexCast c2_i32_827
  let c0_i32_467 : BitVec 32 := 0#32
  let c1_i32_469 : BitVec 32 := 1#32
  let arg7 : BitVec 32 := Scf.iv c0_i32_467 c1_i32_469 k0_t18
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![2, v844.toNat, 96]
def k0_off161 (k0_t18 : Fin k0_t18_loop.trips) (c0_i32_829 : BitVec 32) : Fin 3 → Nat :=
  let c2_i32_830 : BitVec 32 := 2#32
  let v849 : Index := Scalar.indexCast c2_i32_830
  let c0_i32_467 : BitVec 32 := 0#32
  let c1_i32_469 : BitVec 32 := 1#32
  let arg7 : BitVec 32 := Scf.iv c0_i32_467 c1_i32_469 k0_t18
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![2, v850.toNat, 112]
@[reducible] def k0_t19_loop : Scf.Loop 32 :=
  let c0_i32_492 : BitVec 32 := 0#32
  let c32_i32_493 : BitVec 32 := 32#32
  let v501 : BitVec 32 := Scalar.addi c0_i32_492 c32_i32_493
  let c1_i32_494 : BitVec 32 := 1#32
  ⟨c0_i32_492, v501, c1_i32_494⟩
def k0_off162 (k0_t19 : Fin k0_t19_loop.trips) (c0_i32_808 : BitVec 32) : Fin 3 → Nat :=
  let c0_i32_809 : BitVec 32 := 0#32
  let v807 : Index := Scalar.indexCast c0_i32_809
  let c0_i32_492 : BitVec 32 := 0#32
  let c1_i32_494 : BitVec 32 := 1#32
  let arg7 : BitVec 32 := Scf.iv c0_i32_492 c1_i32_494 k0_t19
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![0, v808.toNat, 0]
def k0_off163 (k0_t19 : Fin k0_t19_loop.trips) (c0_i32_811 : BitVec 32) : Fin 3 → Nat :=
  let c0_i32_812 : BitVec 32 := 0#32
  let v813 : Index := Scalar.indexCast c0_i32_812
  let c0_i32_492 : BitVec 32 := 0#32
  let c1_i32_494 : BitVec 32 := 1#32
  let arg7 : BitVec 32 := Scf.iv c0_i32_492 c1_i32_494 k0_t19
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![0, v814.toNat, 16]
def k0_off164 (k0_t19 : Fin k0_t19_loop.trips) (c0_i32_814 : BitVec 32) : Fin 3 → Nat :=
  let c0_i32_815 : BitVec 32 := 0#32
  let v819 : Index := Scalar.indexCast c0_i32_815
  let c0_i32_492 : BitVec 32 := 0#32
  let c1_i32_494 : BitVec 32 := 1#32
  let arg7 : BitVec 32 := Scf.iv c0_i32_492 c1_i32_494 k0_t19
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![0, v820.toNat, 32]
def k0_off165 (k0_t19 : Fin k0_t19_loop.trips) (c0_i32_817 : BitVec 32) : Fin 3 → Nat :=
  let c0_i32_818 : BitVec 32 := 0#32
  let v825 : Index := Scalar.indexCast c0_i32_818
  let c0_i32_492 : BitVec 32 := 0#32
  let c1_i32_494 : BitVec 32 := 1#32
  let arg7 : BitVec 32 := Scf.iv c0_i32_492 c1_i32_494 k0_t19
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![0, v826.toNat, 48]
def k0_off166 (k0_t19 : Fin k0_t19_loop.trips) (c0_i32_820 : BitVec 32) : Fin 3 → Nat :=
  let c0_i32_821 : BitVec 32 := 0#32
  let v831 : Index := Scalar.indexCast c0_i32_821
  let c0_i32_492 : BitVec 32 := 0#32
  let c1_i32_494 : BitVec 32 := 1#32
  let arg7 : BitVec 32 := Scf.iv c0_i32_492 c1_i32_494 k0_t19
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![0, v832.toNat, 64]
def k0_off167 (k0_t19 : Fin k0_t19_loop.trips) (c0_i32_823 : BitVec 32) : Fin 3 → Nat :=
  let c0_i32_824 : BitVec 32 := 0#32
  let v837 : Index := Scalar.indexCast c0_i32_824
  let c0_i32_492 : BitVec 32 := 0#32
  let c1_i32_494 : BitVec 32 := 1#32
  let arg7 : BitVec 32 := Scf.iv c0_i32_492 c1_i32_494 k0_t19
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![0, v838.toNat, 80]
def k0_off168 (k0_t19 : Fin k0_t19_loop.trips) (c0_i32_826 : BitVec 32) : Fin 3 → Nat :=
  let c0_i32_827 : BitVec 32 := 0#32
  let v843 : Index := Scalar.indexCast c0_i32_827
  let c0_i32_492 : BitVec 32 := 0#32
  let c1_i32_494 : BitVec 32 := 1#32
  let arg7 : BitVec 32 := Scf.iv c0_i32_492 c1_i32_494 k0_t19
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![0, v844.toNat, 96]
def k0_off169 (k0_t19 : Fin k0_t19_loop.trips) (c0_i32_829 : BitVec 32) : Fin 3 → Nat :=
  let c0_i32_830 : BitVec 32 := 0#32
  let v849 : Index := Scalar.indexCast c0_i32_830
  let c0_i32_492 : BitVec 32 := 0#32
  let c1_i32_494 : BitVec 32 := 1#32
  let arg7 : BitVec 32 := Scf.iv c0_i32_492 c1_i32_494 k0_t19
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![0, v850.toNat, 112]
@[reducible] def k0_t20_loop : Scf.Loop 32 :=
  let c0_i32_517 : BitVec 32 := 0#32
  let c32_i32_518 : BitVec 32 := 32#32
  let v524 : BitVec 32 := Scalar.addi c0_i32_517 c32_i32_518
  let c1_i32_519 : BitVec 32 := 1#32
  ⟨c0_i32_517, v524, c1_i32_519⟩
def k0_off170 (k0_t20 : Fin k0_t20_loop.trips) (c0_i32_808 : BitVec 32) : Fin 3 → Nat :=
  let c1_i32_809 : BitVec 32 := 1#32
  let v807 : Index := Scalar.indexCast c1_i32_809
  let c0_i32_517 : BitVec 32 := 0#32
  let c1_i32_519 : BitVec 32 := 1#32
  let arg7 : BitVec 32 := Scf.iv c0_i32_517 c1_i32_519 k0_t20
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![1, v808.toNat, 0]
def k0_off171 (k0_t20 : Fin k0_t20_loop.trips) (c0_i32_811 : BitVec 32) : Fin 3 → Nat :=
  let c1_i32_812 : BitVec 32 := 1#32
  let v813 : Index := Scalar.indexCast c1_i32_812
  let c0_i32_517 : BitVec 32 := 0#32
  let c1_i32_519 : BitVec 32 := 1#32
  let arg7 : BitVec 32 := Scf.iv c0_i32_517 c1_i32_519 k0_t20
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![1, v814.toNat, 16]
def k0_off172 (k0_t20 : Fin k0_t20_loop.trips) (c0_i32_814 : BitVec 32) : Fin 3 → Nat :=
  let c1_i32_815 : BitVec 32 := 1#32
  let v819 : Index := Scalar.indexCast c1_i32_815
  let c0_i32_517 : BitVec 32 := 0#32
  let c1_i32_519 : BitVec 32 := 1#32
  let arg7 : BitVec 32 := Scf.iv c0_i32_517 c1_i32_519 k0_t20
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![1, v820.toNat, 32]
def k0_off173 (k0_t20 : Fin k0_t20_loop.trips) (c0_i32_817 : BitVec 32) : Fin 3 → Nat :=
  let c1_i32_818 : BitVec 32 := 1#32
  let v825 : Index := Scalar.indexCast c1_i32_818
  let c0_i32_517 : BitVec 32 := 0#32
  let c1_i32_519 : BitVec 32 := 1#32
  let arg7 : BitVec 32 := Scf.iv c0_i32_517 c1_i32_519 k0_t20
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![1, v826.toNat, 48]
def k0_off174 (k0_t20 : Fin k0_t20_loop.trips) (c0_i32_820 : BitVec 32) : Fin 3 → Nat :=
  let c1_i32_821 : BitVec 32 := 1#32
  let v831 : Index := Scalar.indexCast c1_i32_821
  let c0_i32_517 : BitVec 32 := 0#32
  let c1_i32_519 : BitVec 32 := 1#32
  let arg7 : BitVec 32 := Scf.iv c0_i32_517 c1_i32_519 k0_t20
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![1, v832.toNat, 64]
def k0_off175 (k0_t20 : Fin k0_t20_loop.trips) (c0_i32_823 : BitVec 32) : Fin 3 → Nat :=
  let c1_i32_824 : BitVec 32 := 1#32
  let v837 : Index := Scalar.indexCast c1_i32_824
  let c0_i32_517 : BitVec 32 := 0#32
  let c1_i32_519 : BitVec 32 := 1#32
  let arg7 : BitVec 32 := Scf.iv c0_i32_517 c1_i32_519 k0_t20
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![1, v838.toNat, 80]
def k0_off176 (k0_t20 : Fin k0_t20_loop.trips) (c0_i32_826 : BitVec 32) : Fin 3 → Nat :=
  let c1_i32_827 : BitVec 32 := 1#32
  let v843 : Index := Scalar.indexCast c1_i32_827
  let c0_i32_517 : BitVec 32 := 0#32
  let c1_i32_519 : BitVec 32 := 1#32
  let arg7 : BitVec 32 := Scf.iv c0_i32_517 c1_i32_519 k0_t20
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![1, v844.toNat, 96]
def k0_off177 (k0_t20 : Fin k0_t20_loop.trips) (c0_i32_829 : BitVec 32) : Fin 3 → Nat :=
  let c1_i32_830 : BitVec 32 := 1#32
  let v849 : Index := Scalar.indexCast c1_i32_830
  let c0_i32_517 : BitVec 32 := 0#32
  let c1_i32_519 : BitVec 32 := 1#32
  let arg7 : BitVec 32 := Scf.iv c0_i32_517 c1_i32_519 k0_t20
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![1, v850.toNat, 112]
@[reducible] def k0_t21_loop : Scf.Loop 32 :=
  let c0_i32_542 : BitVec 32 := 0#32
  let c32_i32_543 : BitVec 32 := 32#32
  let v547 : BitVec 32 := Scalar.addi c0_i32_542 c32_i32_543
  let c1_i32_544 : BitVec 32 := 1#32
  ⟨c0_i32_542, v547, c1_i32_544⟩
def k0_off178 (k0_t21 : Fin k0_t21_loop.trips) (c0_i32_808 : BitVec 32) : Fin 3 → Nat :=
  let c2_i32_809 : BitVec 32 := 2#32
  let v807 : Index := Scalar.indexCast c2_i32_809
  let c0_i32_542 : BitVec 32 := 0#32
  let c1_i32_544 : BitVec 32 := 1#32
  let arg7 : BitVec 32 := Scf.iv c0_i32_542 c1_i32_544 k0_t21
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![2, v808.toNat, 0]
def k0_off179 (k0_t21 : Fin k0_t21_loop.trips) (c0_i32_811 : BitVec 32) : Fin 3 → Nat :=
  let c2_i32_812 : BitVec 32 := 2#32
  let v813 : Index := Scalar.indexCast c2_i32_812
  let c0_i32_542 : BitVec 32 := 0#32
  let c1_i32_544 : BitVec 32 := 1#32
  let arg7 : BitVec 32 := Scf.iv c0_i32_542 c1_i32_544 k0_t21
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![2, v814.toNat, 16]
def k0_off180 (k0_t21 : Fin k0_t21_loop.trips) (c0_i32_814 : BitVec 32) : Fin 3 → Nat :=
  let c2_i32_815 : BitVec 32 := 2#32
  let v819 : Index := Scalar.indexCast c2_i32_815
  let c0_i32_542 : BitVec 32 := 0#32
  let c1_i32_544 : BitVec 32 := 1#32
  let arg7 : BitVec 32 := Scf.iv c0_i32_542 c1_i32_544 k0_t21
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![2, v820.toNat, 32]
def k0_off181 (k0_t21 : Fin k0_t21_loop.trips) (c0_i32_817 : BitVec 32) : Fin 3 → Nat :=
  let c2_i32_818 : BitVec 32 := 2#32
  let v825 : Index := Scalar.indexCast c2_i32_818
  let c0_i32_542 : BitVec 32 := 0#32
  let c1_i32_544 : BitVec 32 := 1#32
  let arg7 : BitVec 32 := Scf.iv c0_i32_542 c1_i32_544 k0_t21
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![2, v826.toNat, 48]
def k0_off182 (k0_t21 : Fin k0_t21_loop.trips) (c0_i32_820 : BitVec 32) : Fin 3 → Nat :=
  let c2_i32_821 : BitVec 32 := 2#32
  let v831 : Index := Scalar.indexCast c2_i32_821
  let c0_i32_542 : BitVec 32 := 0#32
  let c1_i32_544 : BitVec 32 := 1#32
  let arg7 : BitVec 32 := Scf.iv c0_i32_542 c1_i32_544 k0_t21
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![2, v832.toNat, 64]
def k0_off183 (k0_t21 : Fin k0_t21_loop.trips) (c0_i32_823 : BitVec 32) : Fin 3 → Nat :=
  let c2_i32_824 : BitVec 32 := 2#32
  let v837 : Index := Scalar.indexCast c2_i32_824
  let c0_i32_542 : BitVec 32 := 0#32
  let c1_i32_544 : BitVec 32 := 1#32
  let arg7 : BitVec 32 := Scf.iv c0_i32_542 c1_i32_544 k0_t21
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![2, v838.toNat, 80]
def k0_off184 (k0_t21 : Fin k0_t21_loop.trips) (c0_i32_826 : BitVec 32) : Fin 3 → Nat :=
  let c2_i32_827 : BitVec 32 := 2#32
  let v843 : Index := Scalar.indexCast c2_i32_827
  let c0_i32_542 : BitVec 32 := 0#32
  let c1_i32_544 : BitVec 32 := 1#32
  let arg7 : BitVec 32 := Scf.iv c0_i32_542 c1_i32_544 k0_t21
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![2, v844.toNat, 96]
def k0_off185 (k0_t21 : Fin k0_t21_loop.trips) (c0_i32_829 : BitVec 32) : Fin 3 → Nat :=
  let c2_i32_830 : BitVec 32 := 2#32
  let v849 : Index := Scalar.indexCast c2_i32_830
  let c0_i32_542 : BitVec 32 := 0#32
  let c1_i32_544 : BitVec 32 := 1#32
  let arg7 : BitVec 32 := Scf.iv c0_i32_542 c1_i32_544 k0_t21
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![2, v850.toNat, 112]
@[reducible] def k0_t22_loop : Scf.Loop 32 :=
  let c0_i32_567 : BitVec 32 := 0#32
  let c32_i32_568 : BitVec 32 := 32#32
  let v570 : BitVec 32 := Scalar.addi c0_i32_567 c32_i32_568
  let c1_i32_569 : BitVec 32 := 1#32
  ⟨c0_i32_567, v570, c1_i32_569⟩
def k0_off186 (k0_t22 : Fin k0_t22_loop.trips) (c0_i32_808 : BitVec 32) : Fin 3 → Nat :=
  let c0_i32_809 : BitVec 32 := 0#32
  let v807 : Index := Scalar.indexCast c0_i32_809
  let c0_i32_567 : BitVec 32 := 0#32
  let c1_i32_569 : BitVec 32 := 1#32
  let arg7 : BitVec 32 := Scf.iv c0_i32_567 c1_i32_569 k0_t22
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![0, v808.toNat, 0]
def k0_off187 (k0_t22 : Fin k0_t22_loop.trips) (c0_i32_811 : BitVec 32) : Fin 3 → Nat :=
  let c0_i32_812 : BitVec 32 := 0#32
  let v813 : Index := Scalar.indexCast c0_i32_812
  let c0_i32_567 : BitVec 32 := 0#32
  let c1_i32_569 : BitVec 32 := 1#32
  let arg7 : BitVec 32 := Scf.iv c0_i32_567 c1_i32_569 k0_t22
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![0, v814.toNat, 16]
def k0_off188 (k0_t22 : Fin k0_t22_loop.trips) (c0_i32_814 : BitVec 32) : Fin 3 → Nat :=
  let c0_i32_815 : BitVec 32 := 0#32
  let v819 : Index := Scalar.indexCast c0_i32_815
  let c0_i32_567 : BitVec 32 := 0#32
  let c1_i32_569 : BitVec 32 := 1#32
  let arg7 : BitVec 32 := Scf.iv c0_i32_567 c1_i32_569 k0_t22
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![0, v820.toNat, 32]
def k0_off189 (k0_t22 : Fin k0_t22_loop.trips) (c0_i32_817 : BitVec 32) : Fin 3 → Nat :=
  let c0_i32_818 : BitVec 32 := 0#32
  let v825 : Index := Scalar.indexCast c0_i32_818
  let c0_i32_567 : BitVec 32 := 0#32
  let c1_i32_569 : BitVec 32 := 1#32
  let arg7 : BitVec 32 := Scf.iv c0_i32_567 c1_i32_569 k0_t22
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![0, v826.toNat, 48]
def k0_off190 (k0_t22 : Fin k0_t22_loop.trips) (c0_i32_820 : BitVec 32) : Fin 3 → Nat :=
  let c0_i32_821 : BitVec 32 := 0#32
  let v831 : Index := Scalar.indexCast c0_i32_821
  let c0_i32_567 : BitVec 32 := 0#32
  let c1_i32_569 : BitVec 32 := 1#32
  let arg7 : BitVec 32 := Scf.iv c0_i32_567 c1_i32_569 k0_t22
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![0, v832.toNat, 64]
def k0_off191 (k0_t22 : Fin k0_t22_loop.trips) (c0_i32_823 : BitVec 32) : Fin 3 → Nat :=
  let c0_i32_824 : BitVec 32 := 0#32
  let v837 : Index := Scalar.indexCast c0_i32_824
  let c0_i32_567 : BitVec 32 := 0#32
  let c1_i32_569 : BitVec 32 := 1#32
  let arg7 : BitVec 32 := Scf.iv c0_i32_567 c1_i32_569 k0_t22
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![0, v838.toNat, 80]
def k0_off192 (k0_t22 : Fin k0_t22_loop.trips) (c0_i32_826 : BitVec 32) : Fin 3 → Nat :=
  let c0_i32_827 : BitVec 32 := 0#32
  let v843 : Index := Scalar.indexCast c0_i32_827
  let c0_i32_567 : BitVec 32 := 0#32
  let c1_i32_569 : BitVec 32 := 1#32
  let arg7 : BitVec 32 := Scf.iv c0_i32_567 c1_i32_569 k0_t22
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![0, v844.toNat, 96]
def k0_off193 (k0_t22 : Fin k0_t22_loop.trips) (c0_i32_829 : BitVec 32) : Fin 3 → Nat :=
  let c0_i32_830 : BitVec 32 := 0#32
  let v849 : Index := Scalar.indexCast c0_i32_830
  let c0_i32_567 : BitVec 32 := 0#32
  let c1_i32_569 : BitVec 32 := 1#32
  let arg7 : BitVec 32 := Scf.iv c0_i32_567 c1_i32_569 k0_t22
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![0, v850.toNat, 112]
@[reducible] def k0_t23_loop : Scf.Loop 32 :=
  let c0_i32_592 : BitVec 32 := 0#32
  let c32_i32_593 : BitVec 32 := 32#32
  let v593 : BitVec 32 := Scalar.addi c0_i32_592 c32_i32_593
  let c1_i32_594 : BitVec 32 := 1#32
  ⟨c0_i32_592, v593, c1_i32_594⟩
def k0_off194 (k0_t23 : Fin k0_t23_loop.trips) (c0_i32_808 : BitVec 32) : Fin 3 → Nat :=
  let c1_i32_809 : BitVec 32 := 1#32
  let v807 : Index := Scalar.indexCast c1_i32_809
  let c0_i32_592 : BitVec 32 := 0#32
  let c1_i32_594 : BitVec 32 := 1#32
  let arg7 : BitVec 32 := Scf.iv c0_i32_592 c1_i32_594 k0_t23
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![1, v808.toNat, 0]
def k0_off195 (k0_t23 : Fin k0_t23_loop.trips) (c0_i32_811 : BitVec 32) : Fin 3 → Nat :=
  let c1_i32_812 : BitVec 32 := 1#32
  let v813 : Index := Scalar.indexCast c1_i32_812
  let c0_i32_592 : BitVec 32 := 0#32
  let c1_i32_594 : BitVec 32 := 1#32
  let arg7 : BitVec 32 := Scf.iv c0_i32_592 c1_i32_594 k0_t23
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![1, v814.toNat, 16]
def k0_off196 (k0_t23 : Fin k0_t23_loop.trips) (c0_i32_814 : BitVec 32) : Fin 3 → Nat :=
  let c1_i32_815 : BitVec 32 := 1#32
  let v819 : Index := Scalar.indexCast c1_i32_815
  let c0_i32_592 : BitVec 32 := 0#32
  let c1_i32_594 : BitVec 32 := 1#32
  let arg7 : BitVec 32 := Scf.iv c0_i32_592 c1_i32_594 k0_t23
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![1, v820.toNat, 32]
def k0_off197 (k0_t23 : Fin k0_t23_loop.trips) (c0_i32_817 : BitVec 32) : Fin 3 → Nat :=
  let c1_i32_818 : BitVec 32 := 1#32
  let v825 : Index := Scalar.indexCast c1_i32_818
  let c0_i32_592 : BitVec 32 := 0#32
  let c1_i32_594 : BitVec 32 := 1#32
  let arg7 : BitVec 32 := Scf.iv c0_i32_592 c1_i32_594 k0_t23
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![1, v826.toNat, 48]
def k0_off198 (k0_t23 : Fin k0_t23_loop.trips) (c0_i32_820 : BitVec 32) : Fin 3 → Nat :=
  let c1_i32_821 : BitVec 32 := 1#32
  let v831 : Index := Scalar.indexCast c1_i32_821
  let c0_i32_592 : BitVec 32 := 0#32
  let c1_i32_594 : BitVec 32 := 1#32
  let arg7 : BitVec 32 := Scf.iv c0_i32_592 c1_i32_594 k0_t23
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![1, v832.toNat, 64]
def k0_off199 (k0_t23 : Fin k0_t23_loop.trips) (c0_i32_823 : BitVec 32) : Fin 3 → Nat :=
  let c1_i32_824 : BitVec 32 := 1#32
  let v837 : Index := Scalar.indexCast c1_i32_824
  let c0_i32_592 : BitVec 32 := 0#32
  let c1_i32_594 : BitVec 32 := 1#32
  let arg7 : BitVec 32 := Scf.iv c0_i32_592 c1_i32_594 k0_t23
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![1, v838.toNat, 80]
def k0_off200 (k0_t23 : Fin k0_t23_loop.trips) (c0_i32_826 : BitVec 32) : Fin 3 → Nat :=
  let c1_i32_827 : BitVec 32 := 1#32
  let v843 : Index := Scalar.indexCast c1_i32_827
  let c0_i32_592 : BitVec 32 := 0#32
  let c1_i32_594 : BitVec 32 := 1#32
  let arg7 : BitVec 32 := Scf.iv c0_i32_592 c1_i32_594 k0_t23
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![1, v844.toNat, 96]
def k0_off201 (k0_t23 : Fin k0_t23_loop.trips) (c0_i32_829 : BitVec 32) : Fin 3 → Nat :=
  let c1_i32_830 : BitVec 32 := 1#32
  let v849 : Index := Scalar.indexCast c1_i32_830
  let c0_i32_592 : BitVec 32 := 0#32
  let c1_i32_594 : BitVec 32 := 1#32
  let arg7 : BitVec 32 := Scf.iv c0_i32_592 c1_i32_594 k0_t23
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![1, v850.toNat, 112]
@[reducible] def k0_t24_loop : Scf.Loop 32 :=
  let c0_i32_617 : BitVec 32 := 0#32
  let c32_i32_618 : BitVec 32 := 32#32
  let v616 : BitVec 32 := Scalar.addi c0_i32_617 c32_i32_618
  let c1_i32_619 : BitVec 32 := 1#32
  ⟨c0_i32_617, v616, c1_i32_619⟩
def k0_off202 (k0_t24 : Fin k0_t24_loop.trips) (c0_i32_808 : BitVec 32) : Fin 3 → Nat :=
  let c2_i32_809 : BitVec 32 := 2#32
  let v807 : Index := Scalar.indexCast c2_i32_809
  let c0_i32_617 : BitVec 32 := 0#32
  let c1_i32_619 : BitVec 32 := 1#32
  let arg7 : BitVec 32 := Scf.iv c0_i32_617 c1_i32_619 k0_t24
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![2, v808.toNat, 0]
def k0_off203 (k0_t24 : Fin k0_t24_loop.trips) (c0_i32_811 : BitVec 32) : Fin 3 → Nat :=
  let c2_i32_812 : BitVec 32 := 2#32
  let v813 : Index := Scalar.indexCast c2_i32_812
  let c0_i32_617 : BitVec 32 := 0#32
  let c1_i32_619 : BitVec 32 := 1#32
  let arg7 : BitVec 32 := Scf.iv c0_i32_617 c1_i32_619 k0_t24
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![2, v814.toNat, 16]
def k0_off204 (k0_t24 : Fin k0_t24_loop.trips) (c0_i32_814 : BitVec 32) : Fin 3 → Nat :=
  let c2_i32_815 : BitVec 32 := 2#32
  let v819 : Index := Scalar.indexCast c2_i32_815
  let c0_i32_617 : BitVec 32 := 0#32
  let c1_i32_619 : BitVec 32 := 1#32
  let arg7 : BitVec 32 := Scf.iv c0_i32_617 c1_i32_619 k0_t24
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![2, v820.toNat, 32]
def k0_off205 (k0_t24 : Fin k0_t24_loop.trips) (c0_i32_817 : BitVec 32) : Fin 3 → Nat :=
  let c2_i32_818 : BitVec 32 := 2#32
  let v825 : Index := Scalar.indexCast c2_i32_818
  let c0_i32_617 : BitVec 32 := 0#32
  let c1_i32_619 : BitVec 32 := 1#32
  let arg7 : BitVec 32 := Scf.iv c0_i32_617 c1_i32_619 k0_t24
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![2, v826.toNat, 48]
def k0_off206 (k0_t24 : Fin k0_t24_loop.trips) (c0_i32_820 : BitVec 32) : Fin 3 → Nat :=
  let c2_i32_821 : BitVec 32 := 2#32
  let v831 : Index := Scalar.indexCast c2_i32_821
  let c0_i32_617 : BitVec 32 := 0#32
  let c1_i32_619 : BitVec 32 := 1#32
  let arg7 : BitVec 32 := Scf.iv c0_i32_617 c1_i32_619 k0_t24
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![2, v832.toNat, 64]
def k0_off207 (k0_t24 : Fin k0_t24_loop.trips) (c0_i32_823 : BitVec 32) : Fin 3 → Nat :=
  let c2_i32_824 : BitVec 32 := 2#32
  let v837 : Index := Scalar.indexCast c2_i32_824
  let c0_i32_617 : BitVec 32 := 0#32
  let c1_i32_619 : BitVec 32 := 1#32
  let arg7 : BitVec 32 := Scf.iv c0_i32_617 c1_i32_619 k0_t24
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![2, v838.toNat, 80]
def k0_off208 (k0_t24 : Fin k0_t24_loop.trips) (c0_i32_826 : BitVec 32) : Fin 3 → Nat :=
  let c2_i32_827 : BitVec 32 := 2#32
  let v843 : Index := Scalar.indexCast c2_i32_827
  let c0_i32_617 : BitVec 32 := 0#32
  let c1_i32_619 : BitVec 32 := 1#32
  let arg7 : BitVec 32 := Scf.iv c0_i32_617 c1_i32_619 k0_t24
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![2, v844.toNat, 96]
def k0_off209 (k0_t24 : Fin k0_t24_loop.trips) (c0_i32_829 : BitVec 32) : Fin 3 → Nat :=
  let c2_i32_830 : BitVec 32 := 2#32
  let v849 : Index := Scalar.indexCast c2_i32_830
  let c0_i32_617 : BitVec 32 := 0#32
  let c1_i32_619 : BitVec 32 := 1#32
  let arg7 : BitVec 32 := Scf.iv c0_i32_617 c1_i32_619 k0_t24
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![2, v850.toNat, 112]
@[reducible] def k0_t25_loop : Scf.Loop 32 :=
  let c0_i32_642 : BitVec 32 := 0#32
  let c32_i32_643 : BitVec 32 := 32#32
  let v639 : BitVec 32 := Scalar.addi c0_i32_642 c32_i32_643
  let c1_i32_644 : BitVec 32 := 1#32
  ⟨c0_i32_642, v639, c1_i32_644⟩
def k0_off210 (k0_t25 : Fin k0_t25_loop.trips) (c0_i32_808 : BitVec 32) : Fin 3 → Nat :=
  let c0_i32_809 : BitVec 32 := 0#32
  let v807 : Index := Scalar.indexCast c0_i32_809
  let c0_i32_642 : BitVec 32 := 0#32
  let c1_i32_644 : BitVec 32 := 1#32
  let arg7 : BitVec 32 := Scf.iv c0_i32_642 c1_i32_644 k0_t25
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![0, v808.toNat, 0]
def k0_off211 (k0_t25 : Fin k0_t25_loop.trips) (c0_i32_811 : BitVec 32) : Fin 3 → Nat :=
  let c0_i32_812 : BitVec 32 := 0#32
  let v813 : Index := Scalar.indexCast c0_i32_812
  let c0_i32_642 : BitVec 32 := 0#32
  let c1_i32_644 : BitVec 32 := 1#32
  let arg7 : BitVec 32 := Scf.iv c0_i32_642 c1_i32_644 k0_t25
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![0, v814.toNat, 16]
def k0_off212 (k0_t25 : Fin k0_t25_loop.trips) (c0_i32_814 : BitVec 32) : Fin 3 → Nat :=
  let c0_i32_815 : BitVec 32 := 0#32
  let v819 : Index := Scalar.indexCast c0_i32_815
  let c0_i32_642 : BitVec 32 := 0#32
  let c1_i32_644 : BitVec 32 := 1#32
  let arg7 : BitVec 32 := Scf.iv c0_i32_642 c1_i32_644 k0_t25
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![0, v820.toNat, 32]
def k0_off213 (k0_t25 : Fin k0_t25_loop.trips) (c0_i32_817 : BitVec 32) : Fin 3 → Nat :=
  let c0_i32_818 : BitVec 32 := 0#32
  let v825 : Index := Scalar.indexCast c0_i32_818
  let c0_i32_642 : BitVec 32 := 0#32
  let c1_i32_644 : BitVec 32 := 1#32
  let arg7 : BitVec 32 := Scf.iv c0_i32_642 c1_i32_644 k0_t25
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![0, v826.toNat, 48]
def k0_off214 (k0_t25 : Fin k0_t25_loop.trips) (c0_i32_820 : BitVec 32) : Fin 3 → Nat :=
  let c0_i32_821 : BitVec 32 := 0#32
  let v831 : Index := Scalar.indexCast c0_i32_821
  let c0_i32_642 : BitVec 32 := 0#32
  let c1_i32_644 : BitVec 32 := 1#32
  let arg7 : BitVec 32 := Scf.iv c0_i32_642 c1_i32_644 k0_t25
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![0, v832.toNat, 64]
def k0_off215 (k0_t25 : Fin k0_t25_loop.trips) (c0_i32_823 : BitVec 32) : Fin 3 → Nat :=
  let c0_i32_824 : BitVec 32 := 0#32
  let v837 : Index := Scalar.indexCast c0_i32_824
  let c0_i32_642 : BitVec 32 := 0#32
  let c1_i32_644 : BitVec 32 := 1#32
  let arg7 : BitVec 32 := Scf.iv c0_i32_642 c1_i32_644 k0_t25
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![0, v838.toNat, 80]
def k0_off216 (k0_t25 : Fin k0_t25_loop.trips) (c0_i32_826 : BitVec 32) : Fin 3 → Nat :=
  let c0_i32_827 : BitVec 32 := 0#32
  let v843 : Index := Scalar.indexCast c0_i32_827
  let c0_i32_642 : BitVec 32 := 0#32
  let c1_i32_644 : BitVec 32 := 1#32
  let arg7 : BitVec 32 := Scf.iv c0_i32_642 c1_i32_644 k0_t25
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![0, v844.toNat, 96]
def k0_off217 (k0_t25 : Fin k0_t25_loop.trips) (c0_i32_829 : BitVec 32) : Fin 3 → Nat :=
  let c0_i32_830 : BitVec 32 := 0#32
  let v849 : Index := Scalar.indexCast c0_i32_830
  let c0_i32_642 : BitVec 32 := 0#32
  let c1_i32_644 : BitVec 32 := 1#32
  let arg7 : BitVec 32 := Scf.iv c0_i32_642 c1_i32_644 k0_t25
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![0, v850.toNat, 112]
@[reducible] def k0_t26_loop : Scf.Loop 32 :=
  let c0_i32_667 : BitVec 32 := 0#32
  let c32_i32_668 : BitVec 32 := 32#32
  let v662 : BitVec 32 := Scalar.addi c0_i32_667 c32_i32_668
  let c1_i32_669 : BitVec 32 := 1#32
  ⟨c0_i32_667, v662, c1_i32_669⟩
def k0_off218 (k0_t26 : Fin k0_t26_loop.trips) (c0_i32_808 : BitVec 32) : Fin 3 → Nat :=
  let c1_i32_809 : BitVec 32 := 1#32
  let v807 : Index := Scalar.indexCast c1_i32_809
  let c0_i32_667 : BitVec 32 := 0#32
  let c1_i32_669 : BitVec 32 := 1#32
  let arg7 : BitVec 32 := Scf.iv c0_i32_667 c1_i32_669 k0_t26
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![1, v808.toNat, 0]
def k0_off219 (k0_t26 : Fin k0_t26_loop.trips) (c0_i32_811 : BitVec 32) : Fin 3 → Nat :=
  let c1_i32_812 : BitVec 32 := 1#32
  let v813 : Index := Scalar.indexCast c1_i32_812
  let c0_i32_667 : BitVec 32 := 0#32
  let c1_i32_669 : BitVec 32 := 1#32
  let arg7 : BitVec 32 := Scf.iv c0_i32_667 c1_i32_669 k0_t26
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![1, v814.toNat, 16]
def k0_off220 (k0_t26 : Fin k0_t26_loop.trips) (c0_i32_814 : BitVec 32) : Fin 3 → Nat :=
  let c1_i32_815 : BitVec 32 := 1#32
  let v819 : Index := Scalar.indexCast c1_i32_815
  let c0_i32_667 : BitVec 32 := 0#32
  let c1_i32_669 : BitVec 32 := 1#32
  let arg7 : BitVec 32 := Scf.iv c0_i32_667 c1_i32_669 k0_t26
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![1, v820.toNat, 32]
def k0_off221 (k0_t26 : Fin k0_t26_loop.trips) (c0_i32_817 : BitVec 32) : Fin 3 → Nat :=
  let c1_i32_818 : BitVec 32 := 1#32
  let v825 : Index := Scalar.indexCast c1_i32_818
  let c0_i32_667 : BitVec 32 := 0#32
  let c1_i32_669 : BitVec 32 := 1#32
  let arg7 : BitVec 32 := Scf.iv c0_i32_667 c1_i32_669 k0_t26
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![1, v826.toNat, 48]
def k0_off222 (k0_t26 : Fin k0_t26_loop.trips) (c0_i32_820 : BitVec 32) : Fin 3 → Nat :=
  let c1_i32_821 : BitVec 32 := 1#32
  let v831 : Index := Scalar.indexCast c1_i32_821
  let c0_i32_667 : BitVec 32 := 0#32
  let c1_i32_669 : BitVec 32 := 1#32
  let arg7 : BitVec 32 := Scf.iv c0_i32_667 c1_i32_669 k0_t26
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![1, v832.toNat, 64]
def k0_off223 (k0_t26 : Fin k0_t26_loop.trips) (c0_i32_823 : BitVec 32) : Fin 3 → Nat :=
  let c1_i32_824 : BitVec 32 := 1#32
  let v837 : Index := Scalar.indexCast c1_i32_824
  let c0_i32_667 : BitVec 32 := 0#32
  let c1_i32_669 : BitVec 32 := 1#32
  let arg7 : BitVec 32 := Scf.iv c0_i32_667 c1_i32_669 k0_t26
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![1, v838.toNat, 80]
def k0_off224 (k0_t26 : Fin k0_t26_loop.trips) (c0_i32_826 : BitVec 32) : Fin 3 → Nat :=
  let c1_i32_827 : BitVec 32 := 1#32
  let v843 : Index := Scalar.indexCast c1_i32_827
  let c0_i32_667 : BitVec 32 := 0#32
  let c1_i32_669 : BitVec 32 := 1#32
  let arg7 : BitVec 32 := Scf.iv c0_i32_667 c1_i32_669 k0_t26
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![1, v844.toNat, 96]
def k0_off225 (k0_t26 : Fin k0_t26_loop.trips) (c0_i32_829 : BitVec 32) : Fin 3 → Nat :=
  let c1_i32_830 : BitVec 32 := 1#32
  let v849 : Index := Scalar.indexCast c1_i32_830
  let c0_i32_667 : BitVec 32 := 0#32
  let c1_i32_669 : BitVec 32 := 1#32
  let arg7 : BitVec 32 := Scf.iv c0_i32_667 c1_i32_669 k0_t26
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![1, v850.toNat, 112]
@[reducible] def k0_t27_loop : Scf.Loop 32 :=
  let c0_i32_692 : BitVec 32 := 0#32
  let c32_i32_693 : BitVec 32 := 32#32
  let v685 : BitVec 32 := Scalar.addi c0_i32_692 c32_i32_693
  let c1_i32_694 : BitVec 32 := 1#32
  ⟨c0_i32_692, v685, c1_i32_694⟩
def k0_off226 (k0_t27 : Fin k0_t27_loop.trips) (c0_i32_808 : BitVec 32) : Fin 3 → Nat :=
  let c2_i32_809 : BitVec 32 := 2#32
  let v807 : Index := Scalar.indexCast c2_i32_809
  let c0_i32_692 : BitVec 32 := 0#32
  let c1_i32_694 : BitVec 32 := 1#32
  let arg7 : BitVec 32 := Scf.iv c0_i32_692 c1_i32_694 k0_t27
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![2, v808.toNat, 0]
def k0_off227 (k0_t27 : Fin k0_t27_loop.trips) (c0_i32_811 : BitVec 32) : Fin 3 → Nat :=
  let c2_i32_812 : BitVec 32 := 2#32
  let v813 : Index := Scalar.indexCast c2_i32_812
  let c0_i32_692 : BitVec 32 := 0#32
  let c1_i32_694 : BitVec 32 := 1#32
  let arg7 : BitVec 32 := Scf.iv c0_i32_692 c1_i32_694 k0_t27
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![2, v814.toNat, 16]
def k0_off228 (k0_t27 : Fin k0_t27_loop.trips) (c0_i32_814 : BitVec 32) : Fin 3 → Nat :=
  let c2_i32_815 : BitVec 32 := 2#32
  let v819 : Index := Scalar.indexCast c2_i32_815
  let c0_i32_692 : BitVec 32 := 0#32
  let c1_i32_694 : BitVec 32 := 1#32
  let arg7 : BitVec 32 := Scf.iv c0_i32_692 c1_i32_694 k0_t27
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![2, v820.toNat, 32]
def k0_off229 (k0_t27 : Fin k0_t27_loop.trips) (c0_i32_817 : BitVec 32) : Fin 3 → Nat :=
  let c2_i32_818 : BitVec 32 := 2#32
  let v825 : Index := Scalar.indexCast c2_i32_818
  let c0_i32_692 : BitVec 32 := 0#32
  let c1_i32_694 : BitVec 32 := 1#32
  let arg7 : BitVec 32 := Scf.iv c0_i32_692 c1_i32_694 k0_t27
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![2, v826.toNat, 48]
def k0_off230 (k0_t27 : Fin k0_t27_loop.trips) (c0_i32_820 : BitVec 32) : Fin 3 → Nat :=
  let c2_i32_821 : BitVec 32 := 2#32
  let v831 : Index := Scalar.indexCast c2_i32_821
  let c0_i32_692 : BitVec 32 := 0#32
  let c1_i32_694 : BitVec 32 := 1#32
  let arg7 : BitVec 32 := Scf.iv c0_i32_692 c1_i32_694 k0_t27
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![2, v832.toNat, 64]
def k0_off231 (k0_t27 : Fin k0_t27_loop.trips) (c0_i32_823 : BitVec 32) : Fin 3 → Nat :=
  let c2_i32_824 : BitVec 32 := 2#32
  let v837 : Index := Scalar.indexCast c2_i32_824
  let c0_i32_692 : BitVec 32 := 0#32
  let c1_i32_694 : BitVec 32 := 1#32
  let arg7 : BitVec 32 := Scf.iv c0_i32_692 c1_i32_694 k0_t27
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![2, v838.toNat, 80]
def k0_off232 (k0_t27 : Fin k0_t27_loop.trips) (c0_i32_826 : BitVec 32) : Fin 3 → Nat :=
  let c2_i32_827 : BitVec 32 := 2#32
  let v843 : Index := Scalar.indexCast c2_i32_827
  let c0_i32_692 : BitVec 32 := 0#32
  let c1_i32_694 : BitVec 32 := 1#32
  let arg7 : BitVec 32 := Scf.iv c0_i32_692 c1_i32_694 k0_t27
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![2, v844.toNat, 96]
def k0_off233 (k0_t27 : Fin k0_t27_loop.trips) (c0_i32_829 : BitVec 32) : Fin 3 → Nat :=
  let c2_i32_830 : BitVec 32 := 2#32
  let v849 : Index := Scalar.indexCast c2_i32_830
  let c0_i32_692 : BitVec 32 := 0#32
  let c1_i32_694 : BitVec 32 := 1#32
  let arg7 : BitVec 32 := Scf.iv c0_i32_692 c1_i32_694 k0_t27
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![2, v850.toNat, 112]
@[reducible] def k0_t28_loop : Scf.Loop 32 :=
  let c0_i32_717 : BitVec 32 := 0#32
  let c32_i32_718 : BitVec 32 := 32#32
  let v708 : BitVec 32 := Scalar.addi c0_i32_717 c32_i32_718
  let c1_i32_719 : BitVec 32 := 1#32
  ⟨c0_i32_717, v708, c1_i32_719⟩
def k0_off234 (k0_t28 : Fin k0_t28_loop.trips) (c0_i32_808 : BitVec 32) : Fin 3 → Nat :=
  let c0_i32_809 : BitVec 32 := 0#32
  let v807 : Index := Scalar.indexCast c0_i32_809
  let c0_i32_717 : BitVec 32 := 0#32
  let c1_i32_719 : BitVec 32 := 1#32
  let arg7 : BitVec 32 := Scf.iv c0_i32_717 c1_i32_719 k0_t28
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![0, v808.toNat, 0]
def k0_off235 (k0_t28 : Fin k0_t28_loop.trips) (c0_i32_811 : BitVec 32) : Fin 3 → Nat :=
  let c0_i32_812 : BitVec 32 := 0#32
  let v813 : Index := Scalar.indexCast c0_i32_812
  let c0_i32_717 : BitVec 32 := 0#32
  let c1_i32_719 : BitVec 32 := 1#32
  let arg7 : BitVec 32 := Scf.iv c0_i32_717 c1_i32_719 k0_t28
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![0, v814.toNat, 16]
def k0_off236 (k0_t28 : Fin k0_t28_loop.trips) (c0_i32_814 : BitVec 32) : Fin 3 → Nat :=
  let c0_i32_815 : BitVec 32 := 0#32
  let v819 : Index := Scalar.indexCast c0_i32_815
  let c0_i32_717 : BitVec 32 := 0#32
  let c1_i32_719 : BitVec 32 := 1#32
  let arg7 : BitVec 32 := Scf.iv c0_i32_717 c1_i32_719 k0_t28
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![0, v820.toNat, 32]
def k0_off237 (k0_t28 : Fin k0_t28_loop.trips) (c0_i32_817 : BitVec 32) : Fin 3 → Nat :=
  let c0_i32_818 : BitVec 32 := 0#32
  let v825 : Index := Scalar.indexCast c0_i32_818
  let c0_i32_717 : BitVec 32 := 0#32
  let c1_i32_719 : BitVec 32 := 1#32
  let arg7 : BitVec 32 := Scf.iv c0_i32_717 c1_i32_719 k0_t28
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![0, v826.toNat, 48]
def k0_off238 (k0_t28 : Fin k0_t28_loop.trips) (c0_i32_820 : BitVec 32) : Fin 3 → Nat :=
  let c0_i32_821 : BitVec 32 := 0#32
  let v831 : Index := Scalar.indexCast c0_i32_821
  let c0_i32_717 : BitVec 32 := 0#32
  let c1_i32_719 : BitVec 32 := 1#32
  let arg7 : BitVec 32 := Scf.iv c0_i32_717 c1_i32_719 k0_t28
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![0, v832.toNat, 64]
def k0_off239 (k0_t28 : Fin k0_t28_loop.trips) (c0_i32_823 : BitVec 32) : Fin 3 → Nat :=
  let c0_i32_824 : BitVec 32 := 0#32
  let v837 : Index := Scalar.indexCast c0_i32_824
  let c0_i32_717 : BitVec 32 := 0#32
  let c1_i32_719 : BitVec 32 := 1#32
  let arg7 : BitVec 32 := Scf.iv c0_i32_717 c1_i32_719 k0_t28
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![0, v838.toNat, 80]
def k0_off240 (k0_t28 : Fin k0_t28_loop.trips) (c0_i32_826 : BitVec 32) : Fin 3 → Nat :=
  let c0_i32_827 : BitVec 32 := 0#32
  let v843 : Index := Scalar.indexCast c0_i32_827
  let c0_i32_717 : BitVec 32 := 0#32
  let c1_i32_719 : BitVec 32 := 1#32
  let arg7 : BitVec 32 := Scf.iv c0_i32_717 c1_i32_719 k0_t28
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![0, v844.toNat, 96]
def k0_off241 (k0_t28 : Fin k0_t28_loop.trips) (c0_i32_829 : BitVec 32) : Fin 3 → Nat :=
  let c0_i32_830 : BitVec 32 := 0#32
  let v849 : Index := Scalar.indexCast c0_i32_830
  let c0_i32_717 : BitVec 32 := 0#32
  let c1_i32_719 : BitVec 32 := 1#32
  let arg7 : BitVec 32 := Scf.iv c0_i32_717 c1_i32_719 k0_t28
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![0, v850.toNat, 112]
@[reducible] def k0_t29_loop : Scf.Loop 32 :=
  let c0_i32_742 : BitVec 32 := 0#32
  let c32_i32_743 : BitVec 32 := 32#32
  let v731 : BitVec 32 := Scalar.addi c0_i32_742 c32_i32_743
  let c1_i32_744 : BitVec 32 := 1#32
  ⟨c0_i32_742, v731, c1_i32_744⟩
def k0_off242 (k0_t29 : Fin k0_t29_loop.trips) (c0_i32_808 : BitVec 32) : Fin 3 → Nat :=
  let c1_i32_809 : BitVec 32 := 1#32
  let v807 : Index := Scalar.indexCast c1_i32_809
  let c0_i32_742 : BitVec 32 := 0#32
  let c1_i32_744 : BitVec 32 := 1#32
  let arg7 : BitVec 32 := Scf.iv c0_i32_742 c1_i32_744 k0_t29
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![1, v808.toNat, 0]
def k0_off243 (k0_t29 : Fin k0_t29_loop.trips) (c0_i32_811 : BitVec 32) : Fin 3 → Nat :=
  let c1_i32_812 : BitVec 32 := 1#32
  let v813 : Index := Scalar.indexCast c1_i32_812
  let c0_i32_742 : BitVec 32 := 0#32
  let c1_i32_744 : BitVec 32 := 1#32
  let arg7 : BitVec 32 := Scf.iv c0_i32_742 c1_i32_744 k0_t29
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![1, v814.toNat, 16]
def k0_off244 (k0_t29 : Fin k0_t29_loop.trips) (c0_i32_814 : BitVec 32) : Fin 3 → Nat :=
  let c1_i32_815 : BitVec 32 := 1#32
  let v819 : Index := Scalar.indexCast c1_i32_815
  let c0_i32_742 : BitVec 32 := 0#32
  let c1_i32_744 : BitVec 32 := 1#32
  let arg7 : BitVec 32 := Scf.iv c0_i32_742 c1_i32_744 k0_t29
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![1, v820.toNat, 32]
def k0_off245 (k0_t29 : Fin k0_t29_loop.trips) (c0_i32_817 : BitVec 32) : Fin 3 → Nat :=
  let c1_i32_818 : BitVec 32 := 1#32
  let v825 : Index := Scalar.indexCast c1_i32_818
  let c0_i32_742 : BitVec 32 := 0#32
  let c1_i32_744 : BitVec 32 := 1#32
  let arg7 : BitVec 32 := Scf.iv c0_i32_742 c1_i32_744 k0_t29
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![1, v826.toNat, 48]
def k0_off246 (k0_t29 : Fin k0_t29_loop.trips) (c0_i32_820 : BitVec 32) : Fin 3 → Nat :=
  let c1_i32_821 : BitVec 32 := 1#32
  let v831 : Index := Scalar.indexCast c1_i32_821
  let c0_i32_742 : BitVec 32 := 0#32
  let c1_i32_744 : BitVec 32 := 1#32
  let arg7 : BitVec 32 := Scf.iv c0_i32_742 c1_i32_744 k0_t29
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![1, v832.toNat, 64]
def k0_off247 (k0_t29 : Fin k0_t29_loop.trips) (c0_i32_823 : BitVec 32) : Fin 3 → Nat :=
  let c1_i32_824 : BitVec 32 := 1#32
  let v837 : Index := Scalar.indexCast c1_i32_824
  let c0_i32_742 : BitVec 32 := 0#32
  let c1_i32_744 : BitVec 32 := 1#32
  let arg7 : BitVec 32 := Scf.iv c0_i32_742 c1_i32_744 k0_t29
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![1, v838.toNat, 80]
def k0_off248 (k0_t29 : Fin k0_t29_loop.trips) (c0_i32_826 : BitVec 32) : Fin 3 → Nat :=
  let c1_i32_827 : BitVec 32 := 1#32
  let v843 : Index := Scalar.indexCast c1_i32_827
  let c0_i32_742 : BitVec 32 := 0#32
  let c1_i32_744 : BitVec 32 := 1#32
  let arg7 : BitVec 32 := Scf.iv c0_i32_742 c1_i32_744 k0_t29
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![1, v844.toNat, 96]
def k0_off249 (k0_t29 : Fin k0_t29_loop.trips) (c0_i32_829 : BitVec 32) : Fin 3 → Nat :=
  let c1_i32_830 : BitVec 32 := 1#32
  let v849 : Index := Scalar.indexCast c1_i32_830
  let c0_i32_742 : BitVec 32 := 0#32
  let c1_i32_744 : BitVec 32 := 1#32
  let arg7 : BitVec 32 := Scf.iv c0_i32_742 c1_i32_744 k0_t29
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![1, v850.toNat, 112]
@[reducible] def k0_t30_loop : Scf.Loop 32 :=
  let c0_i32_767 : BitVec 32 := 0#32
  let c32_i32_768 : BitVec 32 := 32#32
  let v754 : BitVec 32 := Scalar.addi c0_i32_767 c32_i32_768
  let c1_i32_769 : BitVec 32 := 1#32
  ⟨c0_i32_767, v754, c1_i32_769⟩
def k0_off250 (k0_t30 : Fin k0_t30_loop.trips) (c0_i32_808 : BitVec 32) : Fin 3 → Nat :=
  let c2_i32_809 : BitVec 32 := 2#32
  let v807 : Index := Scalar.indexCast c2_i32_809
  let c0_i32_767 : BitVec 32 := 0#32
  let c1_i32_769 : BitVec 32 := 1#32
  let arg7 : BitVec 32 := Scf.iv c0_i32_767 c1_i32_769 k0_t30
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![2, v808.toNat, 0]
def k0_off251 (k0_t30 : Fin k0_t30_loop.trips) (c0_i32_811 : BitVec 32) : Fin 3 → Nat :=
  let c2_i32_812 : BitVec 32 := 2#32
  let v813 : Index := Scalar.indexCast c2_i32_812
  let c0_i32_767 : BitVec 32 := 0#32
  let c1_i32_769 : BitVec 32 := 1#32
  let arg7 : BitVec 32 := Scf.iv c0_i32_767 c1_i32_769 k0_t30
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![2, v814.toNat, 16]
def k0_off252 (k0_t30 : Fin k0_t30_loop.trips) (c0_i32_814 : BitVec 32) : Fin 3 → Nat :=
  let c2_i32_815 : BitVec 32 := 2#32
  let v819 : Index := Scalar.indexCast c2_i32_815
  let c0_i32_767 : BitVec 32 := 0#32
  let c1_i32_769 : BitVec 32 := 1#32
  let arg7 : BitVec 32 := Scf.iv c0_i32_767 c1_i32_769 k0_t30
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![2, v820.toNat, 32]
def k0_off253 (k0_t30 : Fin k0_t30_loop.trips) (c0_i32_817 : BitVec 32) : Fin 3 → Nat :=
  let c2_i32_818 : BitVec 32 := 2#32
  let v825 : Index := Scalar.indexCast c2_i32_818
  let c0_i32_767 : BitVec 32 := 0#32
  let c1_i32_769 : BitVec 32 := 1#32
  let arg7 : BitVec 32 := Scf.iv c0_i32_767 c1_i32_769 k0_t30
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![2, v826.toNat, 48]
def k0_off254 (k0_t30 : Fin k0_t30_loop.trips) (c0_i32_820 : BitVec 32) : Fin 3 → Nat :=
  let c2_i32_821 : BitVec 32 := 2#32
  let v831 : Index := Scalar.indexCast c2_i32_821
  let c0_i32_767 : BitVec 32 := 0#32
  let c1_i32_769 : BitVec 32 := 1#32
  let arg7 : BitVec 32 := Scf.iv c0_i32_767 c1_i32_769 k0_t30
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![2, v832.toNat, 64]
def k0_off255 (k0_t30 : Fin k0_t30_loop.trips) (c0_i32_823 : BitVec 32) : Fin 3 → Nat :=
  let c2_i32_824 : BitVec 32 := 2#32
  let v837 : Index := Scalar.indexCast c2_i32_824
  let c0_i32_767 : BitVec 32 := 0#32
  let c1_i32_769 : BitVec 32 := 1#32
  let arg7 : BitVec 32 := Scf.iv c0_i32_767 c1_i32_769 k0_t30
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![2, v838.toNat, 80]
def k0_off256 (k0_t30 : Fin k0_t30_loop.trips) (c0_i32_826 : BitVec 32) : Fin 3 → Nat :=
  let c2_i32_827 : BitVec 32 := 2#32
  let v843 : Index := Scalar.indexCast c2_i32_827
  let c0_i32_767 : BitVec 32 := 0#32
  let c1_i32_769 : BitVec 32 := 1#32
  let arg7 : BitVec 32 := Scf.iv c0_i32_767 c1_i32_769 k0_t30
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![2, v844.toNat, 96]
def k0_off257 (k0_t30 : Fin k0_t30_loop.trips) (c0_i32_829 : BitVec 32) : Fin 3 → Nat :=
  let c2_i32_830 : BitVec 32 := 2#32
  let v849 : Index := Scalar.indexCast c2_i32_830
  let c0_i32_767 : BitVec 32 := 0#32
  let c1_i32_769 : BitVec 32 := 1#32
  let arg7 : BitVec 32 := Scf.iv c0_i32_767 c1_i32_769 k0_t30
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![2, v850.toNat, 112]
@[reducible] def k0_t31_loop : Scf.Loop 32 :=
  let c0_i32_781 : BitVec 32 := 0#32
  let c32_i32_782 : BitVec 32 := 32#32
  let v766 : BitVec 32 := Scalar.addi c0_i32_781 c32_i32_782
  let c1_i32_783 : BitVec 32 := 1#32
  ⟨c0_i32_781, v766, c1_i32_783⟩
def k0_off258 (k0_t31 : Fin k0_t31_loop.trips) (c0_i32_808 : BitVec 32) : Fin 3 → Nat :=
  let c0_i32_809 : BitVec 32 := 0#32
  let v807 : Index := Scalar.indexCast c0_i32_809
  let c0_i32_781 : BitVec 32 := 0#32
  let c1_i32_783 : BitVec 32 := 1#32
  let arg7 : BitVec 32 := Scf.iv c0_i32_781 c1_i32_783 k0_t31
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![0, v808.toNat, 0]
def k0_off259 (k0_t31 : Fin k0_t31_loop.trips) (c0_i32_811 : BitVec 32) : Fin 3 → Nat :=
  let c0_i32_812 : BitVec 32 := 0#32
  let v813 : Index := Scalar.indexCast c0_i32_812
  let c0_i32_781 : BitVec 32 := 0#32
  let c1_i32_783 : BitVec 32 := 1#32
  let arg7 : BitVec 32 := Scf.iv c0_i32_781 c1_i32_783 k0_t31
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![0, v814.toNat, 16]
def k0_off260 (k0_t31 : Fin k0_t31_loop.trips) (c0_i32_814 : BitVec 32) : Fin 3 → Nat :=
  let c0_i32_815 : BitVec 32 := 0#32
  let v819 : Index := Scalar.indexCast c0_i32_815
  let c0_i32_781 : BitVec 32 := 0#32
  let c1_i32_783 : BitVec 32 := 1#32
  let arg7 : BitVec 32 := Scf.iv c0_i32_781 c1_i32_783 k0_t31
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![0, v820.toNat, 32]
def k0_off261 (k0_t31 : Fin k0_t31_loop.trips) (c0_i32_817 : BitVec 32) : Fin 3 → Nat :=
  let c0_i32_818 : BitVec 32 := 0#32
  let v825 : Index := Scalar.indexCast c0_i32_818
  let c0_i32_781 : BitVec 32 := 0#32
  let c1_i32_783 : BitVec 32 := 1#32
  let arg7 : BitVec 32 := Scf.iv c0_i32_781 c1_i32_783 k0_t31
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![0, v826.toNat, 48]
def k0_off262 (k0_t31 : Fin k0_t31_loop.trips) (c0_i32_820 : BitVec 32) : Fin 3 → Nat :=
  let c0_i32_821 : BitVec 32 := 0#32
  let v831 : Index := Scalar.indexCast c0_i32_821
  let c0_i32_781 : BitVec 32 := 0#32
  let c1_i32_783 : BitVec 32 := 1#32
  let arg7 : BitVec 32 := Scf.iv c0_i32_781 c1_i32_783 k0_t31
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![0, v832.toNat, 64]
def k0_off263 (k0_t31 : Fin k0_t31_loop.trips) (c0_i32_823 : BitVec 32) : Fin 3 → Nat :=
  let c0_i32_824 : BitVec 32 := 0#32
  let v837 : Index := Scalar.indexCast c0_i32_824
  let c0_i32_781 : BitVec 32 := 0#32
  let c1_i32_783 : BitVec 32 := 1#32
  let arg7 : BitVec 32 := Scf.iv c0_i32_781 c1_i32_783 k0_t31
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![0, v838.toNat, 80]
def k0_off264 (k0_t31 : Fin k0_t31_loop.trips) (c0_i32_826 : BitVec 32) : Fin 3 → Nat :=
  let c0_i32_827 : BitVec 32 := 0#32
  let v843 : Index := Scalar.indexCast c0_i32_827
  let c0_i32_781 : BitVec 32 := 0#32
  let c1_i32_783 : BitVec 32 := 1#32
  let arg7 : BitVec 32 := Scf.iv c0_i32_781 c1_i32_783 k0_t31
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![0, v844.toNat, 96]
def k0_off265 (k0_t31 : Fin k0_t31_loop.trips) (c0_i32_829 : BitVec 32) : Fin 3 → Nat :=
  let c0_i32_830 : BitVec 32 := 0#32
  let v849 : Index := Scalar.indexCast c0_i32_830
  let c0_i32_781 : BitVec 32 := 0#32
  let c1_i32_783 : BitVec 32 := 1#32
  let arg7 : BitVec 32 := Scf.iv c0_i32_781 c1_i32_783 k0_t31
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![0, v850.toNat, 112]
@[reducible] def k0_t32_loop : Scf.Loop 32 :=
  let c0_i32_795 : BitVec 32 := 0#32
  let c32_i32_796 : BitVec 32 := 32#32
  let v778 : BitVec 32 := Scalar.addi c0_i32_795 c32_i32_796
  let c1_i32_797 : BitVec 32 := 1#32
  ⟨c0_i32_795, v778, c1_i32_797⟩
def k0_off266 (k0_t32 : Fin k0_t32_loop.trips) (c0_i32_808 : BitVec 32) : Fin 3 → Nat :=
  let c1_i32_809 : BitVec 32 := 1#32
  let v807 : Index := Scalar.indexCast c1_i32_809
  let c0_i32_795 : BitVec 32 := 0#32
  let c1_i32_797 : BitVec 32 := 1#32
  let arg7 : BitVec 32 := Scf.iv c0_i32_795 c1_i32_797 k0_t32
  let c8_i32 : BitVec 32 := 8#32
  let v805 : BitVec 32 := Scalar.muli arg7 c8_i32
  let v806 : BitVec 32 := Scalar.addi v805 c0_i32_808
  let v808 : Index := Scalar.indexCast v806
  let c0_810 : Index := 0#32
  ![1, v808.toNat, 0]
def k0_off267 (k0_t32 : Fin k0_t32_loop.trips) (c0_i32_811 : BitVec 32) : Fin 3 → Nat :=
  let c1_i32_812 : BitVec 32 := 1#32
  let v813 : Index := Scalar.indexCast c1_i32_812
  let c0_i32_795 : BitVec 32 := 0#32
  let c1_i32_797 : BitVec 32 := 1#32
  let arg7 : BitVec 32 := Scf.iv c0_i32_795 c1_i32_797 k0_t32
  let c8_i32 : BitVec 32 := 8#32
  let v805 : BitVec 32 := Scalar.muli arg7 c8_i32
  let v812 : BitVec 32 := Scalar.addi v805 c0_i32_811
  let v814 : Index := Scalar.indexCast v812
  let c16_813 : Index := 16#32
  ![1, v814.toNat, 16]
def k0_off268 (k0_t32 : Fin k0_t32_loop.trips) (c0_i32_814 : BitVec 32) : Fin 3 → Nat :=
  let c1_i32_815 : BitVec 32 := 1#32
  let v819 : Index := Scalar.indexCast c1_i32_815
  let c0_i32_795 : BitVec 32 := 0#32
  let c1_i32_797 : BitVec 32 := 1#32
  let arg7 : BitVec 32 := Scf.iv c0_i32_795 c1_i32_797 k0_t32
  let c8_i32 : BitVec 32 := 8#32
  let v805 : BitVec 32 := Scalar.muli arg7 c8_i32
  let v818 : BitVec 32 := Scalar.addi v805 c0_i32_814
  let v820 : Index := Scalar.indexCast v818
  let c32_816 : Index := 32#32
  ![1, v820.toNat, 32]
def k0_off269 (k0_t32 : Fin k0_t32_loop.trips) (c0_i32_817 : BitVec 32) : Fin 3 → Nat :=
  let c1_i32_818 : BitVec 32 := 1#32
  let v825 : Index := Scalar.indexCast c1_i32_818
  let c0_i32_795 : BitVec 32 := 0#32
  let c1_i32_797 : BitVec 32 := 1#32
  let arg7 : BitVec 32 := Scf.iv c0_i32_795 c1_i32_797 k0_t32
  let c8_i32 : BitVec 32 := 8#32
  let v805 : BitVec 32 := Scalar.muli arg7 c8_i32
  let v824 : BitVec 32 := Scalar.addi v805 c0_i32_817
  let v826 : Index := Scalar.indexCast v824
  let c48_819 : Index := 48#32
  ![1, v826.toNat, 48]
def k0_off270 (k0_t32 : Fin k0_t32_loop.trips) (c0_i32_820 : BitVec 32) : Fin 3 → Nat :=
  let c1_i32_821 : BitVec 32 := 1#32
  let v831 : Index := Scalar.indexCast c1_i32_821
  let c0_i32_795 : BitVec 32 := 0#32
  let c1_i32_797 : BitVec 32 := 1#32
  let arg7 : BitVec 32 := Scf.iv c0_i32_795 c1_i32_797 k0_t32
  let c8_i32 : BitVec 32 := 8#32
  let v805 : BitVec 32 := Scalar.muli arg7 c8_i32
  let v830 : BitVec 32 := Scalar.addi v805 c0_i32_820
  let v832 : Index := Scalar.indexCast v830
  let c64_822 : Index := 64#32
  ![1, v832.toNat, 64]
def k0_off271 (k0_t32 : Fin k0_t32_loop.trips) (c0_i32_823 : BitVec 32) : Fin 3 → Nat :=
  let c1_i32_824 : BitVec 32 := 1#32
  let v837 : Index := Scalar.indexCast c1_i32_824
  let c0_i32_795 : BitVec 32 := 0#32
  let c1_i32_797 : BitVec 32 := 1#32
  let arg7 : BitVec 32 := Scf.iv c0_i32_795 c1_i32_797 k0_t32
  let c8_i32 : BitVec 32 := 8#32
  let v805 : BitVec 32 := Scalar.muli arg7 c8_i32
  let v836 : BitVec 32 := Scalar.addi v805 c0_i32_823
  let v838 : Index := Scalar.indexCast v836
  let c80_825 : Index := 80#32
  ![1, v838.toNat, 80]
def k0_off272 (k0_t32 : Fin k0_t32_loop.trips) (c0_i32_826 : BitVec 32) : Fin 3 → Nat :=
  let c1_i32_827 : BitVec 32 := 1#32
  let v843 : Index := Scalar.indexCast c1_i32_827
  let c0_i32_795 : BitVec 32 := 0#32
  let c1_i32_797 : BitVec 32 := 1#32
  let arg7 : BitVec 32 := Scf.iv c0_i32_795 c1_i32_797 k0_t32
  let c8_i32 : BitVec 32 := 8#32
  let v805 : BitVec 32 := Scalar.muli arg7 c8_i32
  let v842 : BitVec 32 := Scalar.addi v805 c0_i32_826
  let v844 : Index := Scalar.indexCast v842
  let c96_828 : Index := 96#32
  ![1, v844.toNat, 96]
def k0_off273 (k0_t32 : Fin k0_t32_loop.trips) (c0_i32_829 : BitVec 32) : Fin 3 → Nat :=
  let c1_i32_830 : BitVec 32 := 1#32
  let v849 : Index := Scalar.indexCast c1_i32_830
  let c0_i32_795 : BitVec 32 := 0#32
  let c1_i32_797 : BitVec 32 := 1#32
  let arg7 : BitVec 32 := Scf.iv c0_i32_795 c1_i32_797 k0_t32
  let c8_i32 : BitVec 32 := 8#32
  let v805 : BitVec 32 := Scalar.muli arg7 c8_i32
  let v848 : BitVec 32 := Scalar.addi v805 c0_i32_829
  let v850 : Index := Scalar.indexCast v848
  let c112_831 : Index := 112#32
  ![1, v850.toNat, 112]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x4096x128 : Shape := ⟨3, ![64, 4096, 128]⟩
abbrev S64 : Shape := ⟨1, ![64]⟩
abbrev S64x4096 : Shape := ⟨2, ![64, 4096]⟩
abbrev S262144 : Shape := ⟨1, ![262144]⟩
abbrev S262144x128 : Shape := ⟨2, ![262144, 128]⟩
abbrev S1x262144 : Shape := ⟨2, ![1, 262144]⟩
abbrev S64x1 : Shape := ⟨2, ![64, 1]⟩
abbrev S64x262144 : Shape := ⟨2, ![64, 262144]⟩
abbrev S64x262144x1 : Shape := ⟨3, ![64, 262144, 1]⟩
abbrev S1x262144x128 : Shape := ⟨3, ![1, 262144, 128]⟩
abbrev S_ : Shape := ⟨0, ![]⟩
abbrev S64x262144x128 : Shape := ⟨3, ![64, 262144, 128]⟩
abbrev S64x128 : Shape := ⟨2, ![64, 128]⟩

abbrev nBuf : Space → Nat
  | .hbm => 21
  | .vmem => 0
  | .smem => 0
  | _ => 0

abbrev bufTy : (tb : Table) → Fin (tcTables nBuf tb) → BufTy
  | .hbm, ⟨0, _⟩ => ⟨S64x4096x128, .f32⟩
  | .hbm, ⟨1, _⟩ => ⟨S64, .i32⟩
  | .hbm, ⟨2, _⟩ => ⟨S64x4096, .i32⟩
  | .hbm, ⟨3, _⟩ => ⟨S262144, .i32⟩
  | .hbm, ⟨4, _⟩ => ⟨S262144x128, .f32⟩
  | .hbm, ⟨5, _⟩ => ⟨S1x262144, .i32⟩
  | .hbm, ⟨6, _⟩ => ⟨S64, .i32⟩
  | .hbm, ⟨7, _⟩ => ⟨S64x1, .i32⟩
  | .hbm, ⟨8, _⟩ => ⟨S64x262144, .i32⟩
  | .hbm, ⟨9, _⟩ => ⟨S64x262144, .i32⟩
  | .hbm, ⟨10, _⟩ => ⟨S64x262144, .i1⟩
  | .hbm, ⟨11, _⟩ => ⟨S64x262144x1, .i1⟩
  | .hbm, ⟨12, _⟩ => ⟨S1x262144x128, .f32⟩
  | .hbm, ⟨13, _⟩ => ⟨S_, .f32⟩
  | .hbm, ⟨14, _⟩ => ⟨S_, .f32⟩
  | .hbm, ⟨15, _⟩ => ⟨S64x262144x128, .i1⟩
  | .hbm, ⟨16, _⟩ => ⟨S64x262144x128, .f32⟩
  | .hbm, ⟨17, _⟩ => ⟨S64x262144x128, .f32⟩
  | .hbm, ⟨18, _⟩ => ⟨S64x262144x128, .f32⟩
  | .hbm, ⟨19, _⟩ => ⟨S_, .f32⟩
  | .hbm, ⟨20, _⟩ => ⟨S64x128, .f32⟩
  | _, _ => ⟨S64x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Proof.Shape.lean ====
/-
  The body of one vector subcore's task, written once for every step.

  The printed body is straight-line text: thirty-two steps, each of which starts the copy of the chunk two steps ahead,
  waits for its own chunk and folds that chunk's 256 rows into eight vectors of running maxima; after the sixteenth and
  the thirty-second step the eight vectors are stored and copied out as a row of the result. Here the same body is
  written with the step as a number, and the two are proved to be the same program.
-/
module

public import proofs.«01_k».proof.Proof.Gen.KernelIdeal
public import proofs.«01_k».proof.Proof.Gen.KernelIdeal.Skeleton

@[expose] public section

noncomputable section

namespace Cert.Proof.Pool

open Cert.KernelIdeal Cert.KernelIdeal.Gen
open Idealize.ShloMosaic Idealize.SL.Sem

variable {F : FTy → Type} [FloatOps F]

/-- The eight vectors of sixteen running maxima a task carries: lanes 0–15, 16–31, …, 112–127 of a row. -/
abbrev Acc (F : FTy → Type) : Type :=
  FVec F S16 .f32 × FVec F S16 .f32 × FVec F S16 .f32 × FVec F S16 .f32 × FVec F S16 .f32 × FVec F S16 .f32 × FVec F S16 .f32 × FVec F S16 .f32

/-! ## Offsets -/

/-- Where chunk `t` of the task's thirty-two begins in the argument: graph `t / 16` of the task's two, rows from `256 * (t % 16)`. -/
def srcOff (i : grid0.Coords) (t : ℕ) : Fin 3 → ℕ :=
  ![(Scalar.addi (Scalar.muli (Scalar.addi (Scalar.muli (BitVec.ofNat 32 (i 1).val) 2#32) (BitVec.ofNat 32 (i 0).val)) 2#32) (BitVec.ofNat 32 (t / 16 % 2))).toNat,
    256 * (t % 16), 0]

/-- Where the row of the result belonging to the task's graph `g` begins. -/
def dstOff (i : grid0.Coords) (g : ℕ) : Fin 2 → ℕ :=
  ![(Scalar.addi (Scalar.muli (Scalar.addi (Scalar.muli (BitVec.ofNat 32 (i 1).val) 2#32) (BitVec.ofNat 32 (i 0).val)) 2#32) (BitVec.ofNat 32 (g % 2))).toNat, 0]

/-- Where the sixteen lanes read for row `r` of trip `k`'s eight rows, lane block `l`, begin in slot `b` of the staging buffer. -/
def ldOff (b : ℕ) (k : Fin k0_t1_loop.trips) (r l : ℕ) : Fin 3 → ℕ :=
  ![b % 3, (Scalar.indexCast (Scalar.addi (Scalar.muli (Scf.iv 0#32 1#32 k) 8#32) (BitVec.ofNat 32 (r % 8)))).toNat, 16 * (l % 8)]

/-- The graph number as the kernel's words compute it is the plain number. -/
theorem row_eq : ∀ (i : grid0.Coords) (g : Fin 2),
    (Scalar.addi (Scalar.muli (Scalar.addi (Scalar.muli (BitVec.ofNat 32 (i 1).val) 2#32) (BitVec.ofNat 32 (i 0).val)) 2#32) (BitVec.ofNat 32 g.val)).toNat
      = 4 * (i 1).val + 2 * (i 0).val + g.val := by decide +kernel

/-- The row number as the kernel's words compute it is the plain number. -/
theorem trip_eq : ∀ (k : Fin k0_t1_loop.trips) (r : Fin 8),
    (Scalar.indexCast (Scalar.addi (Scalar.muli (Scf.iv 0#32 1#32 k) 8#32) (BitVec.ofNat 32 r.val))).toNat = 8 * k.val + r.val := by decide +kernel

/-- Where a chunk begins in the argument, in plain numbers. -/
theorem srcOff_eq (i : grid0.Coords) (t : ℕ) : srcOff i t = ![4 * (i 1).val + 2 * (i 0).val + t / 16 % 2, 256 * (t % 16), 0] := by
  unfold srcOff; rw [row_eq i ⟨t / 16 % 2, Nat.mod_lt _ (by decide)⟩]

/-- Where a graph's row begins in the result, in plain numbers. -/
theorem dstOff_eq (i : grid0.Coords) (g : ℕ) : dstOff i g = ![4 * (i 1).val + 2 * (i 0).val + g % 2, 0] := by
  unfold dstOff; rw [row_eq i ⟨g % 2, Nat.mod_lt _ (by decide)⟩]

/-- Where the sixteen lanes read begin in the staging buffer, in plain numbers. -/
theorem ldOff_eq (b : ℕ) (k : Fin k0_t1_loop.trips) (r l : ℕ) : ldOff b k r l = ![b % 3, 8 * k.val + r % 8, 16 * (l % 8)] := by
  unfold ldOff; rw [trip_eq k ⟨r % 8, Nat.mod_lt _ (by decide)⟩]

/-- There are two cores. -/
theorem i0_lt (i : grid0.Coords) : (i 0).val < 2 := (i 0).isLt
/-- There are sixteen tiles a core. -/
theorem i1_lt (i : grid0.Coords) : (i 1).val < 16 := (i 1).isLt
/-- A chunk's loop makes thirty-two trips. -/
theorem trips_eq : k0_t1_loop.trips = 32 := by decide +kernel

/-- Every chunk lies inside the argument. -/
theorem srcOff_inb (i : grid0.Coords) (t : ℕ) : ∀ a, srcOff i t a + S1x256x128.size a ≤ S64x4096x128.size a := by
  have h0 := i0_lt i; have h1 := i1_lt i
  rw [srcOff_eq]; intro a
  match a with
  | 0 => show 4 * (i 1).val + 2 * (i 0).val + t / 16 % 2 + 1 ≤ 64; omega
  | 1 => show 256 * (t % 16) + 256 ≤ 4096; omega
  | 2 => show 0 + 128 ≤ 128; omega

/-- Every row to be written lies inside the result. -/
theorem dstOff_inb (i : grid0.Coords) (g : ℕ) : ∀ a, dstOff i g a + S1x128.size a ≤ S64x128.size a := by
  have h0 := i0_lt i; have h1 := i1_lt i
  rw [dstOff_eq]; intro a
  match a with
  | 0 => show 4 * (i 1).val + 2 * (i 0).val + g % 2 + 1 ≤ 64; omega
  | 1 => show 0 + 128 ≤ 128; omega

/-- Every sixteen lanes read lie inside the staging buffer. -/
theorem ldOff_inb (b : ℕ) (k : Fin k0_t1_loop.trips) (r l : ℕ) : ∀ a, ldOff b k r l a + S1x1x16.size a ≤ S3x256x128.size a := by
  have hk : k.val < 32 := lt_of_lt_of_eq k.isLt trips_eq
  rw [ldOff_eq]; intro a
  match a with
  | 0 => show b % 3 + 1 ≤ 3; omega
  | 1 => show 8 * k.val + r % 8 + 1 ≤ 256; omega
  | 2 => show 16 * (l % 8) + 16 ≤ 128; omega

/-- Every slot lies inside the staging buffer. -/
theorem slot_inb (b : ℕ) : ∀ a, (![b % 3, 0, 0] : Fin 3 → ℕ) a + S1x256x128.size a ≤ S3x256x128.size a := by
  intro a
  match a with
  | 0 => show b % 3 + 1 ≤ 3; omega
  | 1 => show 0 + 256 ≤ 256; omega
  | 2 => show 0 + 128 ≤ 128; omega

/-- Every slot's semaphore is one of the three. -/
theorem sem_inb (b : ℕ) : ∀ a, (![b % 3] : Fin 1 → ℕ) a + S1.size a ≤ S3.size a := by
  intro a
  match a with
  | 0 => show b % 3 + 1 ≤ 3; omega

/-- Every lane block lies inside the row buffer. -/
theorem lane_inb (l : ℕ) : ∀ a, (![16 * (l % 8)] : Fin 1 → ℕ) a + S16.size a ≤ S128.size a := by
  intro a
  match a with
  | 0 => show 16 * (l % 8) + 16 ≤ 128; omega

/-! ## The body -/

section Body

variable (i : grid0.Coords) (arg2 : Memref sig .scVector .hbm S64x4096x128 .f32) (arg3 : Memref sig .scVector .hbm S64x128 .f32)
  (arg4 : Memref sig .scVector .vmem S3x256x128 .f32) (arg5 : Memref sig .scVector .vmem S128 .f32) (harg5 : arg5.IsWhole) (arg6 : DmaSems sig S3)

/-- Programs of the task's vector subcore. -/
abbrev TProg (F : FTy → Type) (i : grid0.Coords) : Type → Type 1 :=
  Prog (TpuEff nD τ sig (Elt F) Λ₀ (.scVector ((i 0).castLE hcore0) ((i 1).castLE hsub0)))

/-- Chunk `t` of the argument. -/
abbrev srcM (t : ℕ) : Memref sig .scVector .hbm S256x128 .f32 :=
  (arg2.slice (Rect.unit (s := S64x4096x128) (srcOff i t) S1x256x128.size (srcOff_inb i t)) (fun _ => rfl)).squeeze S256x128 squeezes_S1x256x128_S256x128

/-- Slot `b` of the staging buffer. -/
abbrev slotM (b : ℕ) : Memref sig .scVector .vmem S256x128 .f32 :=
  (arg4.slice (Rect.unit (s := S3x256x128) ![b % 3, 0, 0] S1x256x128.size (slot_inb b)) (fun _ => rfl)).squeeze S256x128 squeezes_S1x256x128_S256x128

/-- The semaphore of slot `b`. -/
abbrev slotS (b : ℕ) : DmaSem sig := ((arg6.slice (Rect.unit (s := S3) ![b % 3] S1.size (sem_inb b))).squeeze S_ squeezes_S1_S_).sem

/-- The row of the result belonging to the task's graph `g`. -/
abbrev dstM (g : ℕ) : Memref sig .scVector .hbm S128 .f32 :=
  (arg3.slice (Rect.unit (s := S64x128) (dstOff i g) S1x128.size (dstOff_inb i g)) (fun _ => rfl)).squeeze S128 squeezes_S1x128_S128

/-- Start the copy of chunk `t` into its slot. -/
def issue (t : ℕ) : TProg F i PUnit :=
  Prog.lift (.enqueueDma (srcM i arg2 t) (.here (slotM arg4 t)) (.dma (slotS arg6 t)) ((View.wordExact_bits rfl).reshape _ _)
    ((View.wordExact_bits rfl).reshape _ _) ⟨Or.inl rfl, trivial⟩)

/-- Wait for the copy of chunk `t`. -/
def await (t : ℕ) : TProg F i PUnit :=
  Prog.lift (.waitDma2 (slotS arg6 t) (srcM i arg2 t) (slotM arg4 t) ((View.wordExact_bits rfl).reshape _ _) ((View.wordExact_bits rfl).reshape _ _))

/-- Read sixteen lanes of a row of slot `b`. -/
def ld (b : ℕ) (k : Fin k0_t1_loop.trips) (r l : ℕ) : TProg F i (Vec F S1x1x16 .f32) :=
  Prog.lift (.load arg4 (Rect.unit (s := S3x256x128) (ldOff b k r l) S1x1x16.size (ldOff_inb b k r l)).toLoadRect (View.loadsAt_vmem h_S1x1x16))

/-- The running maxima of one lane block with the sixteen lanes just read. -/
def mx (a : FVec F S16 .f32) (v : Vec F S1x1x16 .f32) : FVec F S16 .f32 := maximumf a (shapeCast S16 v shapeCasts_S1x1x16_S16)

/-- Fold row `r` of trip `k`'s eight rows into the running maxima. -/
def rowStep (b : ℕ) (k : Fin k0_t1_loop.trips) (r : ℕ) (acc : Acc F) : TProg F i (Acc F) := do
  let v0 ← ld i arg4 b k r 0
  let v1 ← ld i arg4 b k r 1
  let v2 ← ld i arg4 b k r 2
  let v3 ← ld i arg4 b k r 3
  let v4 ← ld i arg4 b k r 4
  let v5 ← ld i arg4 b k r 5
  let v6 ← ld i arg4 b k r 6
  let v7 ← ld i arg4 b k r 7
  pure (mx acc.1 v0, mx acc.2.1 v1, mx acc.2.2.1 v2, mx acc.2.2.2.1 v3, mx acc.2.2.2.2.1 v4, mx acc.2.2.2.2.2.1 v5,
    mx acc.2.2.2.2.2.2.1 v6, mx acc.2.2.2.2.2.2.2 v7)

/-- Trip `k` of a pass: eight rows. -/
def trip (b : ℕ) (k : Fin k0_t1_loop.trips) (acc : Acc F) : TProg F i (Acc F) := do
  let a1 ← rowStep i arg4 b k 0 acc
  let a2 ← rowStep i arg4 b k 1 a1
  let a3 ← rowStep i arg4 b k 2 a2
  let a4 ← rowStep i arg4 b k 3 a3
  let a5 ← rowStep i arg4 b k 4 a4
  let a6 ← rowStep i arg4 b k 5 a5
  let a7 ← rowStep i arg4 b k 6 a6
  rowStep i arg4 b k 7 a7

/-- A pass over slot `b`: its 256 rows folded into the running maxima, eight at a trip. -/
def pass (b : ℕ) (acc : Acc F) : TProg F i (Acc F) := Scf.Loop.for k0_t1_loop k0_t1_ok acc (trip i arg4 b)

/-- Step `t`: start the copy two steps ahead if there is one, wait for chunk `t`, fold it in. -/
def step (t : ℕ) (acc : Acc F) : TProg F i (Acc F) := do
  if t + 2 < 32 then issue i arg2 arg4 arg6 (t + 2) else pure ⟨⟩
  await i arg2 arg4 arg6 t
  pass i arg4 t acc

/-- `n` steps from step `t` on. -/
def steps : ℕ → ℕ → Acc F → TProg F i (Acc F)
  | 0, _, acc => pure acc
  | n + 1, t, acc => do
    let acc ← step i arg2 arg4 arg6 t acc
    steps n (t + 1) acc

/-- Store one vector of maxima as lane block `l` of the row to be copied out; the lanes stored over are read first. -/
def put (l : ℕ) (a : FVec F S16 .f32) : TProg F i PUnit := do
  let _ ← Prog.lift (.load arg5 (Rect.unit (s := S128) ![16 * (l % 8)] S16.size (lane_inb l)).toLoadRect (View.loadsAt_vmem h_S16))
  Prog.lift (.store arg5 (Rect.unit (s := S128) ![16 * (l % 8)] S16.size (lane_inb l)) (shapeCast S16 a shapeCasts_S16_S16) Finset.univ
    (View.stores_vmem_bits_univ h_S16 rfl) (.inl rfl))

/-- Store the eight vectors and copy them out as row `g`. -/
def flush (g : ℕ) (s : DmaSems sig S_) (acc : Acc F) : TProg F i PUnit := do
  put i arg5 0 acc.1
  put i arg5 1 acc.2.1
  put i arg5 2 acc.2.2.1
  put i arg5 3 acc.2.2.2.1
  put i arg5 4 acc.2.2.2.2.1
  put i arg5 5 acc.2.2.2.2.2.1
  put i arg5 6 acc.2.2.2.2.2.2.1
  put i arg5 7 acc.2.2.2.2.2.2.2
  Prog.lift (.enqueueDma arg5 (.here (dstM i arg3 g)) (.dma s.sem) harg5.wordExact ((View.wordExact_bits rfl).reshape _ _) ⟨Or.inl rfl, trivial⟩)
  Prog.lift (.waitDma2 s.sem arg5 (dstM i arg3 g) harg5.wordExact ((View.wordExact_bits rfl).reshape _ _))

/-- The maxima before any row: minus infinity in every lane. -/
def negInf : FVec F S16 .f32 := k0_pay1889 (F := F)
def acc0 : Acc F := (negInf, negInf, negInf, negInf, negInf, negInf, negInf, negInf)

/-- The whole task. -/
def body (s0 s1 : DmaSems sig S_) : TProg F i PUnit := do
  issue i arg2 arg4 arg6 0
  issue i arg2 arg4 arg6 1
  let a ← steps i arg2 arg4 arg6 16 0 acc0
  flush i arg3 arg5 harg5 0 s0 a
  let b ← steps i arg2 arg4 arg6 16 16 acc0
  flush i arg3 arg5 harg5 1 s1 b

omit [FloatOps F] in
/-- Two programs that start alike and go on alike are alike. -/
theorem bind_congr' {α β : Type} {p q : TProg F i α} {f g : α → TProg F i β} (h : p = q) (hf : ∀ x, f x = g x) : p >>= f = q >>= g := by
  subst h; exact congrArg (p >>= ·) (funext hf)

set_option maxHeartbeats 8000000 in
set_option maxRecDepth 65536 in
/-- The printed body of a task is `body`. -/
theorem body_eq (harg2 : arg2.IsWhole) (harg3 : arg3.IsWhole) (harg4 : arg4.IsWhole) (s0 s1 : DmaSems sig S_) :
    cc0__pool_body (F := F) i arg2 harg2 arg3 harg3 arg4 harg4 arg5 harg5 arg6 s0 s1 = body i arg2 arg3 arg4 arg5 harg5 arg6 s0 s1 := by
  rw [cc0__pool_body_eq_skeleton]
  simp only [cc0__pool_body_skel, k0_part289_eq_skeleton, k0_part290_eq_skeleton, k0_part291_eq_skeleton, k0_part292_eq_skeleton, k0_part293_eq_skeleton,
    k0_part294_eq_skeleton, k0_part295_eq_skeleton, k0_part296_eq_skeleton, k0_part297_eq_skeleton, k0_part298_eq_skeleton, k0_part299_eq_skeleton,
    k0_part300_eq_skeleton, k0_part301_eq_skeleton, k0_part302_eq_skeleton, k0_part303_eq_skeleton, k0_part304_eq_skeleton, k0_part305_eq_skeleton,
    k0_part306_eq_skeleton, k0_part307_eq_skeleton, k0_part308_eq_skeleton, k0_part309_eq_skeleton, k0_part310_eq_skeleton, k0_part311_eq_skeleton,
    k0_part312_eq_skeleton, k0_part313_eq_skeleton, k0_part314_eq_skeleton, k0_part315_eq_skeleton, k0_part316_eq_skeleton, k0_part317_eq_skeleton,
    k0_part289_skel, k0_part290_skel, k0_part291_skel, k0_part292_skel, k0_part293_skel, k0_part294_skel, k0_part295_skel, k0_part296_skel,
    k0_part297_skel, k0_part298_skel, k0_part299_skel, k0_part300_skel, k0_part301_skel, k0_part302_skel, k0_part303_skel, k0_part304_skel,
    k0_part305_skel, k0_part306_skel, k0_part307_skel, k0_part308_skel, k0_part309_skel, k0_part310_skel, k0_part311_skel, k0_part312_skel,
    k0_part313_skel, k0_part314_skel, k0_part315_skel, k0_part316_skel, k0_part317_skel, bind_assoc]
  simp only [body, steps, step, flush, put, bind_assoc, pure_bind, Nat.reduceAdd, Nat.reduceLT, if_true, if_false]
  repeat refine bind_congr' rfl fun _ => ?_
  rfl

end Body

end Cert.Proof.Pool

end
-- ==== Proof.Coord.lean ====
/-
  Where the chunks, the staging slots and the result's rows sit in their buffers, and the running maxima as a function of
  the rows folded so far.
-/
module

public import proofs.«01_k».proof.Proof.Shape
public import Idealize.ShloMosaic.Lib.ValueIdx
public import Idealize.ShloMosaic.Lib.ViewIndex

@[expose] public section

noncomputable section

namespace Cert.Proof.Pool

open Cert.KernelIdeal Cert.KernelIdeal.Gen
open Idealize.ShloMosaic Idealize.ShloMosaic.ValueIdx

variable {F : FTy → Type} [FloatOps F]

/-! ## The maxima -/

/-- Element `l` of row `n` of graph `g`; the three numbers are taken modulo the extents. -/
def xIx (g n l : ℕ) : S64x4096x128.Idx :=
  ix3 ⟨g % 64, Nat.mod_lt _ (by decide)⟩ ⟨n % 4096, Nat.mod_lt _ (by decide)⟩ ⟨l % 128, Nat.mod_lt _ (by decide)⟩

/-- The maximum of lane `l` over the first `n` rows of graph `g`, folded from minus infinity in the order of the rows. -/
def cm (x : Vec F S64x4096x128 .f32) (g : ℕ) : ℕ → ℕ → F .f32
  | 0, _ => FloatOps.ofBits .f32 0xFF800000#32
  | n + 1, l => FloatOps.maximumf (cm x g n l) (x (xIx g n l))

/-- Lane block `l` of the maxima over the first `n` rows of graph `g`. -/
def cmv (x : Vec F S64x4096x128 .f32) (g n l : ℕ) : FVec F S16 .f32 := fun j => cm x g n (16 * l + (j 0).val)

/-- All eight lane blocks. -/
def accOf (x : Vec F S64x4096x128 .f32) (g n : ℕ) : Acc F :=
  (cmv x g n 0, cmv x g n 1, cmv x g n 2, cmv x g n 3, cmv x g n 4, cmv x g n 5, cmv x g n 6, cmv x g n 7)

/-- The maxima the kernel starts from are those over no rows. -/
theorem acc0_eq (x : Vec F S64x4096x128 .f32) (g : ℕ) : (acc0 : Acc F) = accOf x g 0 := rfl

/-- The result: for every graph and lane, the maximum over all 4096 rows. -/
def G (x : Vec F S64x4096x128 .f32) : Vec F S64x128 .f32 := fun y => cm x (y 0).val 4096 (y 1).val

/-! ## The buffers -/

abbrev xM : Memref sig .scVector .hbm S64x4096x128 .f32 := Memref.whole main_arg0_scv
abbrev oM : Memref sig .scVector .hbm S64x128 .f32 := Memref.whole main_v0_scv
abbrev sM : Memref sig .scVector .vmem S3x256x128 .f32 := Memref.whole cc0_scratch0
abbrev aM : Memref sig .scVector .vmem S128 .f32 := Memref.whole cc0_scratch1

/-- The first of the task's two graphs. -/
abbrev g0 (i : grid0.Coords) : ℕ := 4 * (i 1).val + 2 * (i 0).val

/-- Row `y 0`, lane `y 1` of chunk `t`, in the argument. -/
theorem src_emb (i : grid0.Coords) (t : ℕ) (y : S256x128.Idx) :
    (srcM i xM t).view.emb y = xIx (g0 i + t / 16 % 2) (256 * (t % 16) + (y 0).val) (y 1).val := by
  have h0 := i0_lt i; have h1 := i1_lt i
  have hy0 : (y 0).val < 256 := (y 0).isLt
  have hy1 : (y 1).val < 128 := (y 1).isLt
  show (Rect.unit (s := S64x4096x128) (srcOff i t) S1x256x128.size (srcOff_inb i t)).emb (Shape.reshapeEquiv squeezes_S1x256x128_S256x128.numel_eq y) = _
  rw [show Shape.reshapeEquiv squeezes_S1x256x128_S256x128.numel_eq y = Fin.cons ⟨0, Nat.one_pos⟩ y from Shape.reshapeEquiv_cons_one (d := ![256, 128]) _ y]
  have e := srcOff_eq i t
  refine Shape.idx3_ext ?_ ?_ ?_ <;> rw [Rect.emb_apply]
  · show srcOff i t 0 + 1 * 0 = _ % 64
    rw [e]; show g0 i + t / 16 % 2 + 1 * 0 = (g0 i + t / 16 % 2) % 64; unfold g0; omega
  · show srcOff i t 1 + 1 * (y 0).val = _ % 4096
    rw [e]; show 256 * (t % 16) + 1 * (y 0).val = _; omega
  · show srcOff i t 2 + 1 * (y 1).val = _ % 128
    rw [e]; show 0 + 1 * (y 1).val = _; omega

/-- Row `y 0`, lane `y 1` of slot `b`, in the staging buffer. -/
theorem slot_emb (b : ℕ) (y : S256x128.Idx) : (slotM sM b).view.emb y = ix3 ⟨b % 3, Nat.mod_lt _ (by decide)⟩ (y 0) (y 1) := by
  show (Rect.unit (s := S3x256x128) ![b % 3, 0, 0] S1x256x128.size (slot_inb b)).emb (Shape.reshapeEquiv squeezes_S1x256x128_S256x128.numel_eq y) = _
  rw [show Shape.reshapeEquiv squeezes_S1x256x128_S256x128.numel_eq y = Fin.cons ⟨0, Nat.one_pos⟩ y from Shape.reshapeEquiv_cons_one (d := ![256, 128]) _ y]
  refine Shape.idx3_ext ?_ ?_ ?_ <;> rw [Rect.emb_apply]
  · show b % 3 + 1 * 0 = b % 3; omega
  · show 0 + 1 * (y 0).val = (y 0).val; omega
  · show 0 + 1 * (y 1).val = (y 1).val; omega

/-- Lane `y 0` of the row of the task's graph `g`, in the result. -/
theorem dst_emb (i : grid0.Coords) (g : ℕ) (y : S128.Idx) :
    (dstM i oM g).view.emb y = ix2 ⟨(g0 i + g % 2) % 64, Nat.mod_lt _ (by decide)⟩ (y 0) := by
  have h0 := i0_lt i; have h1 := i1_lt i
  show (Rect.unit (s := S64x128) (dstOff i g) S1x128.size (dstOff_inb i g)).emb (Shape.reshapeEquiv squeezes_S1x128_S128.numel_eq y) = _
  rw [show Shape.reshapeEquiv squeezes_S1x128_S128.numel_eq y = Fin.cons ⟨0, Nat.one_pos⟩ y from Shape.reshapeEquiv_cons_one (d := ![128]) _ y]
  have e := dstOff_eq i g
  funext a
  refine Fin.ext ?_
  rw [Rect.emb_apply]
  match a with
  | 0 => show dstOff i g 0 + 1 * 0 = _ % 64
         rw [e]; show g0 i + g % 2 + 1 * 0 = (g0 i + g % 2) % 64; unfold g0; omega
  | 1 => show dstOff i g 1 + 1 * (y 0).val = (y 0).val
         rw [e]; show 0 + 1 * (y 0).val = _; omega

/-! ## The parts of the buffers -/

/-- Slot `b` of the staging buffer. -/
def slotSet (b : ℕ) : Finset S3x256x128.Idx := Finset.univ.filter fun y => (y 0).val = b % 3

/-- The rows of the result a task leaves: those of its two graphs. -/
def outSet (i : grid0.Coords) : Finset S64x128.Idx := Finset.univ.filter fun y => (y 0).val / 2 * 2 = g0 i

/-- An element is of slot `b` where its first coordinate is `b` modulo three. -/
theorem mem_slotSet {b : ℕ} {y : S3x256x128.Idx} : y ∈ slotSet b ↔ (y 0).val = b % 3 := by simp [slotSet]
/-- An element of the result is the task's where its row is one of the task's two graphs. -/
theorem mem_outSet {i : grid0.Coords} {y : S64x128.Idx} : y ∈ outSet i ↔ (y 0).val / 2 * 2 = g0 i := by simp [outSet]

/-- The view of slot `b` stays inside slot `b`. -/
theorem slot_sub (b : ℕ) : (slotM sM b).view.set ⊆ slotSet b := by
  intro z hz
  obtain ⟨y, -, rfl⟩ := Finset.mem_map.mp hz
  rw [mem_slotSet]
  exact congrArg (fun z : S3x256x128.Idx => (z 0).val) (slot_emb b y)

/-- The row copied out is one of the task's. -/
theorem dst_sub (i : grid0.Coords) (g : ℕ) : (dstM i oM g).view.set ⊆ outSet i := by
  have h0 := i0_lt i; have h1 := i1_lt i
  intro z hz
  obtain ⟨y, -, rfl⟩ := Finset.mem_map.mp hz
  rw [mem_outSet]
  have e : ((dstM i oM g).view.emb y 0).val = (g0 i + g % 2) % 64 := congrArg (fun z : S64x128.Idx => (z 0).val) (dst_emb i g y)
  rw [e]; unfold g0; omega

/-- The slot's contents are chunk `t`'s. -/
def Holds (i : grid0.Coords) (x : Vec F S64x4096x128 .f32) (t : ℕ) (f : Vec F S3x256x128 .f32) : Prop :=
  ∀ y : S3x256x128.Idx, (y 0).val = t % 3 → f y = x (xIx (g0 i + t / 16 % 2) (256 * (t % 16) + (y 1).val) (y 2).val)

/-- After a copy of chunk `t` into its slot, the slot's contents are chunk `t`'s. -/
theorem holds_copy (i : grid0.Coords) (x : Vec F S64x4096x128 .f32) (t : ℕ) (f : Vec F S3x256x128 .f32) :
    Holds i x t ((slotM sM t).view.write (Elt F) f ((srcM i xM t).view.read (Elt F) x) Finset.univ) := by
  intro y hy
  have e : (slotM sM t).view.emb (ix2 (y 1) (y 2)) = y := by
    rw [slot_emb]
    refine Shape.idx3_ext ?_ rfl rfl
    exact hy.symm
  have h := View.write_emb_of_mem (v := (slotM sM t).view) (Val := Elt F) f ((srcM i xM t).view.read (Elt F) x) (Finset.mem_univ (ix2 (y 1) (y 2)))
  refine (congrArg ((slotM sM t).view.write (Elt F) f ((srcM i xM t).view.read (Elt F) x) Finset.univ) e.symm).trans (h.trans ?_)
  show x ((srcM i xM t).view.emb (ix2 (y 1) (y 2))) = _
  rw [src_emb]

/-- The rectangle of sixteen lanes of a row of slot `b`. -/
abbrev ldR (b : ℕ) (k : Fin k0_t1_loop.trips) (r l : ℕ) : Rect S3x256x128 := Rect.unit (s := S3x256x128) (ldOff b k r l) S1x1x16.size (ldOff_inb b k r l)

/-- The coordinates in the staging buffer of the sixteen lanes read. -/
theorem ld_emb (b : ℕ) (k : Fin k0_t1_loop.trips) (r l : ℕ) (j : S1x1x16.Idx) :
    ((ldR b k r l).emb j 0).val = b % 3 ∧ ((ldR b k r l).emb j 1).val = 8 * k.val + r % 8 ∧ ((ldR b k r l).emb j 2).val = 16 * (l % 8) + (j 2).val := by
  have e := ldOff_eq b k r l
  have j0 : (j 0).val < 1 := (j 0).isLt
  have j1 : (j 1).val < 1 := (j 1).isLt
  refine ⟨?_, ?_, ?_⟩ <;> rw [Rect.emb_apply]
  · show ldOff b k r l 0 + 1 * (j 0).val = _
    rw [e]; show b % 3 + 1 * (j 0).val = _; omega
  · show ldOff b k r l 1 + 1 * (j 1).val = _
    rw [e]; show 8 * k.val + r % 8 + 1 * (j 1).val = _; omega
  · show ldOff b k r l 2 + 1 * (j 2).val = _
    rw [e]; show 16 * (l % 8) + 1 * (j 2).val = _; omega

/-- The sixteen lanes read lie inside their slot. -/
theorem ld_sub (b : ℕ) (k : Fin k0_t1_loop.trips) (r l : ℕ) : (sM.access (ldR b k r l)).set ⊆ slotSet b := by
  intro z hz
  obtain ⟨y, -, rfl⟩ := Finset.mem_map.mp hz
  rw [mem_slotSet]
  exact (ld_emb b k r l y).1

/-- Folding the sixteen lanes read into the maxima over `n` rows gives the maxima over `n + 1`. -/
theorem mx_read (i : grid0.Coords) (x : Vec F S64x4096x128 .f32) (t : ℕ) (f : Vec F S3x256x128 .f32) (hf : Holds i x t f)
    (k : Fin k0_t1_loop.trips) (r l : ℕ) (hr : r < 8) (hl : l < 8) :
    mx (cmv x (g0 i + t / 16 % 2) (256 * (t % 16) + (8 * k.val + r)) l) ((sM.access (ldR t k r l)).read (Elt F) f)
      = cmv x (g0 i + t / 16 % 2) (256 * (t % 16) + (8 * k.val + r) + 1) l := by
  funext j
  show FloatOps.maximumf (cm x _ _ _) (shapeCast S16 _ shapeCasts_S1x1x16_S16 j) = FloatOps.maximumf (cm x _ _ _) _
  have hj : (j 0).val < 16 := (j 0).isLt
  have hs : shapeCast S16 ((sM.access (ldR t k r l)).read (Elt F) f) shapeCasts_S1x1x16_S16 j
      = (sM.access (ldR t k r l)).read (Elt F) f (ix3 0 0 (j 0)) := by
    unfold shapeCast
    refine congrArg _ (Shape.reshapeEquiv_eq_of_rowMajor _ ?_)
    rw [Shape.rowMajor_val_three, Shape.rowMajor_val_one]
    show ((0 : ℕ) * 1 + 0) * 16 + (j 0).val = (j 0).val
    omega
  rw [hs]
  congr 1
  have e := ld_emb t k r l (ix3 0 0 (j 0))
  have h := hf ((ldR t k r l).emb (ix3 0 0 (j 0))) e.1
  refine h.trans ?_
  rw [e.2.1, e.2.2, Nat.mod_eq_of_lt hr, Nat.mod_eq_of_lt hl]

/-! ## The row to be copied out -/

/-- The lane block the store of vector `l` covers. -/
abbrev putR (l : ℕ) : Rect S128 := Rect.unit (s := S128) ![16 * (l % 8)] S16.size (lane_inb l)

/-- The first `l` lane blocks of the row hold the maxima over all rows of graph `g`. -/
def Row (x : Vec F S64x4096x128 .f32) (g l : ℕ) (f : Vec F S128 .f32) : Prop := ∀ y : S128.Idx, (y 0).val < 16 * l → f y = cm x g 4096 (y 0).val

/-- Storing lane block `l` of the maxima extends the row by that block. -/
theorem row_put (x : Vec F S64x4096x128 .f32) (g l : ℕ) (hl : l < 8) (f : Vec F S128 .f32) (hf : Row x g l f) :
    Row x g (l + 1) ((aM.access (putR l)).write (Elt F) f (shapeCast S16 (cmv x g 4096 l) shapeCasts_S16_S16) Finset.univ) := by
  intro y hy
  have hemb : ∀ j : S16.Idx, ((putR l).emb j 0).val = 16 * l + (j 0).val := fun j => by
    rw [Rect.emb_apply]
    show 16 * (l % 8) + 1 * (j 0).val = _
    rw [Nat.mod_eq_of_lt hl]; omega
  by_cases h : (y 0).val < 16 * l
  · rw [View.write_of_not_mem _ _ _ (fun hm => ?_)]
    · exact hf y h
    · obtain ⟨j, -, hj⟩ := Finset.mem_map.mp hm
      have e := hemb j
      rw [show (putR l).emb j = y from hj] at e
      omega
  · have hb : (y 0).val - 16 * l < 16 := by omega
    have e : (putR l).emb (ix1 ⟨(y 0).val - 16 * l, hb⟩) = y := by
      funext a
      match a with
      | 0 => exact Fin.ext ((hemb _).trans (show 16 * l + ((y 0).val - 16 * l) = _ by omega))
    have hw := View.write_emb_of_mem (v := aM.access (putR l)) (Val := Elt F) f (shapeCast S16 (cmv x g 4096 l) shapeCasts_S16_S16)
      (Finset.mem_univ (ix1 ⟨(y 0).val - 16 * l, hb⟩))
    rw [show (aM.access (putR l)).emb (ix1 ⟨(y 0).val - 16 * l, hb⟩) = y from e] at hw
    refine hw.trans ?_
    show shapeCast S16 (cmv x g 4096 l) shapeCasts_S16_S16 (ix1 ⟨(y 0).val - 16 * l, hb⟩) = _
    have hs : shapeCast S16 (cmv x g 4096 l) shapeCasts_S16_S16 (ix1 ⟨(y 0).val - 16 * l, hb⟩) = cmv x g 4096 l (ix1 ⟨(y 0).val - 16 * l, hb⟩) := by
      unfold shapeCast
      exact congrArg _ (Shape.reshapeEquiv_eq_of_rowMajor _ rfl)
    rw [hs]
    show cm x g 4096 (16 * l + ((y 0).val - 16 * l)) = _
    congr 1; omega

/-- The rows of the task's first `g` graphs hold the result. -/
def Out (i : grid0.Coords) (x : Vec F S64x4096x128 .f32) (g : ℕ) (f : Vec F S64x128 .f32) : Prop :=
  ∀ y : S64x128.Idx, g0 i ≤ (y 0).val → (y 0).val < g0 i + g → f y = G x y

/-- Copying a row that holds the maxima of the task's graph `g` over it. -/
theorem out_copy (i : grid0.Coords) (x : Vec F S64x4096x128 .f32) (g : ℕ) (hg : g < 2) (f : Vec F S64x128 .f32) (hf : Out i x g f)
    (a : Vec F S128 .f32) (ha : Row x (g0 i + g) 8 a) :
    Out i x (g + 1) ((dstM i oM g).view.write (Elt F) f (aM.view.read (Elt F) a) Finset.univ) := by
  have h0 := i0_lt i; have h1 := i1_lt i
  intro y hy1 hy2
  have hgi : (g0 i + g % 2) % 64 = g0 i + g := by unfold g0; omega
  by_cases h : (y 0).val < g0 i + g
  · rw [View.write_of_not_mem _ _ _ (fun hm => ?_)]
    · exact hf y hy1 h
    · obtain ⟨j, -, hj⟩ := Finset.mem_map.mp hm
      have e : ((dstM i oM g).view.emb j 0).val = (g0 i + g % 2) % 64 := congrArg (fun z : S64x128.Idx => (z 0).val) (dst_emb i g j)
      rw [hj] at e
      omega
  · have e : (dstM i oM g).view.emb (ix1 (y 1)) = y := by
      rw [dst_emb]
      funext a
      match a with
      | 0 => exact Fin.ext (show (g0 i + g % 2) % 64 = (y 0).val by omega)
      | 1 => rfl
    have hw := View.write_emb_of_mem (v := (dstM i oM g).view) (Val := Elt F) f (aM.view.read (Elt F) a) (Finset.mem_univ (ix1 (y 1)))
    refine (congrArg ((dstM i oM g).view.write (Elt F) f (aM.view.read (Elt F) a) Finset.univ) e.symm).trans (hw.trans ?_)
    show a (ix1 (y 1)) = cm x (y 0).val 4096 (y 1).val
    rw [ha (ix1 (y 1)) (show (y 1).val < 16 * 8 from (y 1).isLt), show (y 0).val = g0 i + g by omega]

end Cert.Proof.Pool

end
-- ==== Proof.Step.lean ====
/-
  The steps of a task, run: the copies in flight on the three slots, the passes over the slots, the copies out.
-/
module

public import proofs.«01_k».proof.Proof.Coord
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight)

variable {F : FTy → Type}

/-! ## The program as the launch theorem sees it, and the resources -/

abbrev ΛP : Labels := Pipeline.Sig Λ₀ (Fin 0) fun p => (pcfgs (F := F) p).Adm
abbrev K : SparseCore.Cfg τ sig (ΛP (F := F)) 1 := sc (F := F)
abbrev 𝒱₀ : Variants := Variants.none

abbrev UH : Type := URounds (GSem nD τ sig) ℕ
abbrev UU : Type := UH × Counters

local notation "𝕄" => MT nD τ sig (HIx 1) (Elt F) ℕ UU ℕ

variable [FloatOps F]

section Tile

variable (d : Dev nD) (i : grid0.Coords)

abbrev cV (i : grid0.Coords) : Fin τ.nSC := (i 0).castLE hcore0
abbrev jV (i : grid0.Coords) : Fin τ.nSub := (i 1).castLE hsub0

/-- The vector subcore the task runs on. -/
abbrev thr (d : Dev nD) (i : grid0.Coords) : Thread nD τ := V d (cV i) (jV i)

/-- The weakest precondition of a program of the task. -/
abbrev WP {α : Type} (p : TProg F i α) (Q : α → sProp 𝕄) : sProp 𝕄 := wp frame (wpE (defs₀ (F := F)) 𝒱₀ (thr d i) none) Set.univ p Q

variable {d i}

omit [FloatOps F] in
/-- A fact held beside a resource may be used in taking it on. -/
theorem pure_left {φ : Prop} {P Q : sProp 𝕄} (h : φ → P ⊢ Q) : iprop(⌜φ⌝ ∗ P) ⊢ Q := by
  iintro ⟨%h', H⟩
  iapply (h h') $$ H

/-- Run one program, then the next. -/
theorem WP.seq {α β : Type} {p : TProg F i α} {f : α → TProg F i β} {P : sProp 𝕄} {Φ : α → sProp 𝕄} {Ψ : β → sProp 𝕄}
    (hp : P ⊢ WP d i p Φ) (hf : ∀ x, Φ x ⊢ WP d i (f x) Ψ) : P ⊢ WP d i (p >>= f) Ψ := by
  unfold WP at *
  rw [wp_bind]
  exact hp.trans (wp_mono _ _ _ hf)

/-- What a program does not use is kept. -/
theorem WP.keep {α : Type} {p : TProg F i α} {P R : sProp 𝕄} {Φ : α → sProp 𝕄} (hp : P ⊢ WP d i p Φ) :
    iprop(P ∗ R) ⊢ WP d i p (fun x => iprop(Φ x ∗ R)) :=
  (sep_mono hp .rfl).trans (wp_frame_r _ _ _)

/-- A program that only returns. -/
theorem WP.ret {α : Type} {a : α} {P : sProp 𝕄} {Φ : α → sProp 𝕄} (h : P ⊢ Φ a) : P ⊢ WP d i (pure a) Φ :=
  h.trans (le_wp_ret _ _ _ _ _)

/-- A weaker postcondition. -/
theorem WP.post {α : Type} {p : TProg F i α} {P : sProp 𝕄} {Φ Ψ : α → sProp 𝕄} (hp : P ⊢ WP d i p Φ) (h : ∀ x, Φ x ⊢ Ψ x) : P ⊢ WP d i p Ψ :=
  hp.trans (wp_mono _ _ _ h)

variable (d i)

/-! ## The passes -/

abbrev slotPts (b : ℕ) (f : Vec F S3x256x128 .f32) : sProp 𝕄 := sM.view.loc (thr d i) ↦[slotSet b]{fullShare} f

variable {d i} in
/-- One row folded in. -/
theorem row_spec (x : Vec F S64x4096x128 .f32) (t : ℕ) (f : Vec F S3x256x128 .f32) (hf : Holds i x t f) (k : Fin k0_t1_loop.trips) (r : ℕ) (hr : r < 8) :
    (slotPts d i t f : sProp 𝕄)
      ⊢ WP d i (rowStep i sM t k r (accOf x (g0 i + t / 16 % 2) (256 * (t % 16) + (8 * k.val + r))))
          fun a => iprop(⌜a = accOf x (g0 i + t / 16 % 2) (256 * (t % 16) + (8 * k.val + r) + 1)⌝ ∗ slotPts d i t f) := by
  have hld : ∀ l, (slotPts d i t f : sProp 𝕄) ⊢ WP d i (ld i sM t k r l)
      fun v => iprop(⌜v = (sM.access (ldR t k r l)).read (Elt F) f⌝ ∗ slotPts d i t f) := fun l => by
    iintro H
    unfold WP ld
    iapply (wp_load_rect 𝒱₀ (thr d i) none Set.univ (r := ldR t k r l) (ld_sub t k r l)) $$ H
    iintro H
    iapply (le_wp_ret _ _ _)
    isplitr
    · ipureintro; rfl
    iexact H
  unfold rowStep
  refine WP.seq (hld 0) fun v0 => pure_left fun h0 => ?_
  refine WP.seq (hld 1) fun v1 => pure_left fun h1 => ?_
  refine WP.seq (hld 2) fun v2 => pure_left fun h2 => ?_
  refine WP.seq (hld 3) fun v3 => pure_left fun h3 => ?_
  refine WP.seq (hld 4) fun v4 => pure_left fun h4 => ?_
  refine WP.seq (hld 5) fun v5 => pure_left fun h5 => ?_
  refine WP.seq (hld 6) fun v6 => pure_left fun h6 => ?_
  refine WP.seq (hld 7) fun v7 => pure_left fun h7 => ?_
  subst h0 h1 h2 h3 h4 h5 h6 h7
  refine WP.ret ?_
  iintro H
  isplitr
  · ipureintro
    have hm := fun l hl => mx_read i x t f hf k r l hr hl
    simp only [accOf, hm 0 (by decide), hm 1 (by decide), hm 2 (by decide), hm 3 (by decide), hm 4 (by decide), hm 5 (by decide), hm 6 (by decide),
      hm 7 (by decide)]
  iexact H

variable {d i} in
/-- Eight rows folded in. -/
theorem trip_spec (x : Vec F S64x4096x128 .f32) (t : ℕ) (f : Vec F S3x256x128 .f32) (hf : Holds i x t f) (k : Fin k0_t1_loop.trips) :
    (slotPts d i t f : sProp 𝕄)
      ⊢ WP d i (trip i sM t k (accOf x (g0 i + t / 16 % 2) (256 * (t % 16) + 8 * k.val)))
          fun a => iprop(⌜a = accOf x (g0 i + t / 16 % 2) (256 * (t % 16) + 8 * (k.val + 1))⌝ ∗ slotPts d i t f) := by
  have hrow := fun r hr => row_spec (d := d) x t f hf k r hr
  unfold trip
  refine WP.seq (hrow 0 (by decide)) fun a => pure_left fun h => ?_
  subst h
  refine WP.seq (hrow 1 (by decide)) fun a => pure_left fun h => ?_
  subst h
  refine WP.seq (hrow 2 (by decide)) fun a => pure_left fun h => ?_
  subst h
  refine WP.seq (hrow 3 (by decide)) fun a => pure_left fun h => ?_
  subst h
  refine WP.seq (hrow 4 (by decide)) fun a => pure_left fun h => ?_
  subst h
  refine WP.seq (hrow 5 (by decide)) fun a => pure_left fun h => ?_
  subst h
  refine WP.seq (hrow 6 (by decide)) fun a => pure_left fun h => ?_
  subst h
  exact hrow 7 (by decide)

variable {d i} in
/-- A whole slot folded in. -/
theorem pass_spec (x : Vec F S64x4096x128 .f32) (t : ℕ) (f : Vec F S3x256x128 .f32) (hf : Holds i x t f) :
    (slotPts d i t f : sProp 𝕄)
      ⊢ WP d i (pass i sM t (accOf x (g0 i + t / 16 % 2) (256 * (t % 16))))
          fun a => iprop(⌜a = accOf x (g0 i + t / 16 % 2) (256 * (t % 16) + 256)⌝ ∗ slotPts d i t f) := by
  refine .trans ?_ (Scf.wp_for _ _ _ _ _ _ _ _ _
    (fun n a => iprop(⌜a = accOf x (g0 i + t / 16 % 2) (256 * (t % 16) + 8 * n)⌝ ∗ slotPts d i t f)) fun k acc => pure_left fun h => ?_)
  · iintro H
    isplitl
    · isplitr
      · ipureintro; rfl
      iexact H
    · iintro %a H
      iapply (Entails.of_eq (show (iprop(⌜a = accOf x (g0 i + t / 16 % 2) (256 * (t % 16) + 8 * k0_t1_loop.trips)⌝ ∗ slotPts d i t f) : sProp 𝕄) = _ by
        rw [trips_eq])) $$ H
  · subst h
    exact trip_spec x t f hf k

/-! ## The copies -/

/-- The share of the argument the copies into slot `u` read at. -/
def xs (q : PosShare TreeShare) (u : ℕ) : PosShare TreeShare := if u % 3 = 0 then q.left.left else if u % 3 = 1 then q.left.right else q.right

abbrev xPts (q : PosShare TreeShare) (S : Finset S64x4096x128.Idx) (x : Vec F S64x4096x128 .f32) : sProp 𝕄 := xM.view.loc (thr d i) ↦[S]{q} x

/-- Nothing in flight on slot `u`: the slot, its semaphore at zero, the slot's share of the argument. -/
def Free (q : PosShare TreeShare) (x : Vec F S64x4096x128 .f32) (u : ℕ) : sProp 𝕄 :=
  iprop((∃ f, slotPts d i u f) ∗ semVal (thr d i, SemLoc.dma (slotS cc0_scratch2 u)) 0 ∗ xPts d i (xs q u) Finset.univ x)

/-- The copy of chunk `u` in flight on its slot: it delivers the slot with the chunk in it and the chunk's part of the share. -/
def Busy (q : PosShare TreeShare) (x : Vec F S64x4096x128 .f32) (u : ℕ) : sProp 𝕄 :=
  iprop(Flight countersEmb (thr d i) (SemLoc.dma (slotS cc0_scratch2 u)) (default : HIx 1) ((slotM sM u).view.amount (SemLoc.dma (slotS cc0_scratch2 u)))
      iprop((∃ f, ⌜Holds i x u f⌝ ∗ slotPts d i u f) ∗ xPts d i (xs q u) (srcM i xM u).view.set x)
    ∗ xPts d i (xs q u) (Finset.univ \ (srcM i xM u).view.set) x)

/-- Slot `u` before step `u`: its copy in flight if there is a step `u`. -/
def St (q : PosShare TreeShare) (x : Vec F S64x4096x128 .f32) (u : ℕ) : sProp 𝕄 := if u < 32 then Busy d i q x u else Free d i q x u

/-- The waits the task may make, and those it has made. -/
def Env (O : CellTallies nD τ sig (HIx 1)) (W : Waits sig (HIx 1)) : sProp 𝕄 :=
  iprop(levAts (K (F := F)).L (K (F := F)).lev ∗ ∃ W', ⌜∀ p ∈ W', p ∈ W ∨ p.2 = none⌝ ∗ owes (thr d i) O W')

/-- Chunks with the same remainder modulo three use the same semaphore. -/
theorem slotS_mod {u v : ℕ} (h : u % 3 = v % 3) : slotS cc0_scratch2 u = slotS cc0_scratch2 v := by
  have key : ∀ (n m : ℕ) (hn : ∀ a, (![n] : Fin 1 → ℕ) a + S1.size a ≤ S3.size a) (hm : ∀ a, (![m] : Fin 1 → ℕ) a + S1.size a ≤ S3.size a), n = m →
      ((cc0_scratch2.slice (Rect.unit (s := S3) ![n] S1.size hn)).squeeze S_ squeezes_S1_S_).sem
        = ((cc0_scratch2.slice (Rect.unit (s := S3) ![m] S1.size hm)).squeeze S_ squeezes_S1_S_).sem := by
    rintro n _ hn hm rfl; rfl
  exact key _ _ _ _ h

/-- Chunks with the same remainder modulo three use the same free slot. -/
theorem slot_mod {u v : ℕ} (h : u % 3 = v % 3) (q : PosShare TreeShare) (x : Vec F S64x4096x128 .f32) : Free d i q x u = Free d i q x v := by
  unfold Free xs slotPts slotSet
  rw [slotS_mod h]
  simp only [h]

/-- A chunk's copy counts a positive amount. -/
theorem slot_pos (u : ℕ) : 0 < (slotM sM u).view.amount (SemLoc.dma (slotS cc0_scratch2 u)) := View.amount_pos _ _ (by decide)

variable {d i} in
/-- Issuing chunk `u`'s copy takes its free slot and leaves the slot with the copy in flight. -/
theorem issue_spec (q : PosShare TreeShare) (x : Vec F S64x4096x128 .f32) (u : ℕ) :
    Free d i q x u ⊢ WP d i (issue i xM sM cc0_scratch2 u) fun _ => Busy d i q x u := by
  unfold Free Busy WP issue
  iintro ⟨⟨%f, Hs⟩, Hv, Hx⟩
  ihave Hx' := (pointsTo_split_subset (Finset.subset_univ (srcM i xM u).view.set)).1 $$ Hx
  icases Hx' with ⟨Hx, Hr⟩
  iapply (Transfers.wp_dmaLocal countersEmb 𝒱₀ (thr d i) none (src := srcM i xM u) (dst := slotM sM u) (via := .same) (default : HIx 1) _ rfl (slot_pos u) (slot_sub u)) $$ [Hx Hs Hv]
  · isplitl [Hx]; · iexact Hx
    isplitl [Hs]; · iexact Hs
    iexact Hv
  iintro Hf
  iapply (le_wp_ret _ _ _)
  isplitl [Hf]
  · iapply (Transfers.Flight_mono countersEmb (thr d i) ?_) $$ Hf
    iintro ⟨Hs, Hx⟩
    isplitl [Hs]
    · iexists _
      isplitr
      rotate_left
      · iexact Hs
      · ipureintro; exact holds_copy i x u f
    · iexact Hx
  · iexact Hr

variable {d i} in
/-- Waiting for chunk `u`'s copy gives back its slot holding the chunk, its semaphore at zero and its share of the argument. -/
theorem await_spec (q : PosShare TreeShare) (x : Vec F S64x4096x128 .f32) (u : ℕ) {O : CellTallies nD τ sig (HIx 1)} (W : Waits sig (HIx 1))
    (hO : ∀ g, O g none = 0) :
    iprop(Busy d i q x u ∗ Env d i O W) ⊢ WP d i (await i xM sM cc0_scratch2 u)
      fun _ => iprop((∃ f, ⌜Holds i x u f⌝ ∗ slotPts d i u f) ∗ semVal (thr d i, SemLoc.dma (slotS cc0_scratch2 u)) 0 ∗ xPts d i (xs q u) Finset.univ x ∗ Env d i O W) := by
  unfold Busy Env WP await
  iintro ⟨⟨Hf, Hr⟩, #Hlv, ⟨%W', %hW, HO⟩⟩
  ihave Hmw := (show levAts (K (F := F)).L (K (F := F)).lev ⊢ Transfers.MayWaits (thr d i) (default : HIx 1) O from
    (K (F := F)).mayWaits_none (thr := thr d i) hO) $$ Hlv
  ihave Hmw' := (Transfers.MayWaits.elim (SemLoc.dma (slotS cc0_scratch2 u))) $$ Hmw
  iapply (Transfers.wp_waitLocalO countersEmb 𝒱₀ (thr d i) none (sem := slotS cc0_scratch2 u) (srcw := srcM i xM u) (dstw := slotM sM u) (default : HIx 1) rfl) $$ [Hf HO Hmw']
  · isplitl [Hf]; · iexact Hf
    isplitl [HO]; · iexact HO
    iexact Hmw'
  iintro ⟨⟨Hs, Hx⟩, Hv, HO⟩
  iapply (le_wp_ret _ _ _)
  isplitl [Hs]; · iexact Hs
  isplitl [Hv]; · iexact Hv
  isplitl [Hx Hr]
  · iapply (pointsTo_split_subset (Finset.subset_univ (srcM i xM u).view.set)).2
    isplitl [Hx]; · iexact Hx
    iexact Hr
  isplitr; · iexact Hlv
  iexists _
  isplitr
  rotate_left
  · iexact HO
  ipureintro
  intro p hp
  rcases Finset.mem_insert.mp hp with rfl | hp
  · exact Or.inr rfl
  · exact hW p hp

/-! ## The steps -/

variable {d i} in
/-- One step: the copy two steps ahead started, this step's chunk folded in, its slot left free. -/
theorem step_spec (q : PosShare TreeShare) (x : Vec F S64x4096x128 .f32) (t : ℕ) (ht : t < 32) {O : CellTallies nD τ sig (HIx 1)} (W : Waits sig (HIx 1))
    (hO : ∀ g, O g none = 0) :
    iprop(St d i q x t ∗ St d i q x (t + 1) ∗ Free d i q x (t + 2) ∗ Env d i O W)
      ⊢ WP d i (step i xM sM cc0_scratch2 t (accOf x (g0 i + t / 16 % 2) (256 * (t % 16))))
          fun a => iprop(⌜a = accOf x (g0 i + t / 16 % 2) (256 * (t % 16) + 256)⌝ ∗ St d i q x (t + 1) ∗ St d i q x (t + 2) ∗ Free d i q x (t + 3) ∗ Env d i O W) := by
  have hst : St d i q x t = Busy d i q x t := if_pos ht
  have h1 : Free d i q x (t + 2) ⊢ WP d i (if t + 2 < 32 then issue i xM sM cc0_scratch2 (t + 2) else pure ⟨⟩) fun _ => St d i q x (t + 2) := by
    unfold St
    split
    · exact issue_spec q x (t + 2)
    · exact WP.ret .rfl
  have hstep : ∀ acc, step (F := F) i xM sM cc0_scratch2 t acc
      = ((if t + 2 < 32 then issue i xM sM cc0_scratch2 (t + 2) else pure ⟨⟩) >>= fun _ => await i xM sM cc0_scratch2 t >>= fun _ => pass i sM t acc) := fun acc => by
    unfold step; split <;> rfl
  rw [hst, slot_mod d i (show (t + 3) % 3 = t % 3 by omega), hstep]
  refine .trans ?_ (WP.seq (WP.keep (R := iprop((Busy d i q x t ∗ Env d i O W) ∗ St d i q x (t + 1))) h1) fun _ => .trans ?_
    (WP.seq (WP.keep (R := iprop(St d i q x (t + 1) ∗ St d i q x (t + 2))) (await_spec q x t W hO)) fun _ => ?_))
  · iintro ⟨H1, H2, H3, H4⟩
    isplitl [H3]; · iexact H3
    isplitl [H1 H4]
    · isplitl [H1]; · iexact H1
      iexact H4
    iexact H2
  · iintro ⟨H3, H1, H2⟩
    isplitl [H1]; · iexact H1
    isplitl [H2]; · iexact H2
    iexact H3
  · iintro ⟨⟨⟨%f, %hf, Hs⟩, Hv, Hx, He⟩, H1, H2⟩
    iapply (WP.post (WP.keep (R := iprop(semVal (thr d i, SemLoc.dma (slotS cc0_scratch2 t)) 0 ∗ xPts d i (xs q t) Finset.univ x ∗ Env d i O W
      ∗ St d i q x (t + 1) ∗ St d i q x (t + 2))) (pass_spec x t f hf)) fun a => ?_) $$ [Hs Hv Hx He H1 H2]
    rotate_left
    · isplitl [Hs]; · iexact Hs
      isplitl [Hv]; · iexact Hv
      isplitl [Hx]; · iexact Hx
      isplitl [He]; · iexact He
      isplitl [H1]; · iexact H1
      iexact H2
    · iintro ⟨⟨%ha, Hs⟩, Hv, Hx, He, H1, H2⟩
      isplitr; · ipureintro; exact ha
      isplitl [H1]; · iexact H1
      isplitl [H2]; · iexact H2
      isplitr [He]
      · unfold Free
        isplitl [Hs]; · iexists f; iexact Hs
        isplitl [Hv]; · iexact Hv
        iexact Hx
      iexact He

variable {d i} in
/-- Some steps over the chunks of one graph, from its chunk `n` on. -/
theorem steps_spec (q : PosShare TreeShare) (x : Vec F S64x4096x128 .f32) (h : ℕ) (hh : h < 2) {O : CellTallies nD τ sig (HIx 1)} (W : Waits sig (HIx 1))
    (hO : ∀ g, O g none = 0) : ∀ (k n : ℕ), n + k ≤ 16 →
    iprop(St d i q x (16 * h + n) ∗ St d i q x (16 * h + n + 1) ∗ Free d i q x (16 * h + n + 2) ∗ Env d i O W)
      ⊢ WP d i (steps i xM sM cc0_scratch2 k (16 * h + n) (accOf x (g0 i + h) (256 * n)))
          fun a => iprop(⌜a = accOf x (g0 i + h) (256 * (n + k))⌝ ∗ St d i q x (16 * h + n + k) ∗ St d i q x (16 * h + n + k + 1)
            ∗ Free d i q x (16 * h + n + k + 2) ∗ Env d i O W)
  | 0, n, _ => by
    unfold steps
    refine WP.ret ?_
    iintro H
    isplitr; · ipureintro; rfl
    iexact H
  | k + 1, n, hn => by
    have e1 : (16 * h + n) / 16 % 2 = h := by omega
    have e2 : (16 * h + n) % 16 = n := by omega
    have hs := step_spec (d := d) (i := i) q x (16 * h + n) (by omega) W hO
    rw [e1, e2] at hs
    unfold steps
    refine WP.seq hs fun a => pure_left fun ha => ?_
    subst ha
    have ih := steps_spec q x h hh W hO k (n + 1) (by omega)
    rw [show 256 * (n + 1) = 256 * n + 256 by omega, show n + 1 + k = n + (k + 1) by omega, show 16 * h + (n + 1) + k = 16 * h + n + (k + 1) by omega,
      show 16 * h + (n + 1) = 16 * h + n + 1 by omega] at ih
    exact ih

/-! ## The copies out -/

abbrev aPts (f : Vec F S128 .f32) : sProp 𝕄 := aM.view.loc (thr d i) ↦{fullShare} f
abbrev oPts (f : Vec F S64x128 .f32) : sProp 𝕄 := oM.view.loc (thr d i) ↦[outSet i]{fullShare} f

variable {d i} in
/-- Storing lane block `l` of the maxima extends the row by that block. -/
theorem put_spec (x : Vec F S64x4096x128 .f32) (g l : ℕ) (hl : l < 8) :
    iprop(∃ f, ⌜Row x g l f⌝ ∗ aPts d i f) ⊢ WP d i (put i aM l (cmv x g 4096 l)) fun _ => iprop(∃ f, ⌜Row x g (l + 1) f⌝ ∗ aPts d i f) := by
  iintro ⟨%f, %hf, H⟩
  unfold WP put
  iapply (wp_load_rect 𝒱₀ (thr d i) none Set.univ (m := aM) (r := putR l) (S := Finset.univ) (Finset.subset_univ _)) $$ H
  iintro H
  iapply (wp_store 𝒱₀ (thr d i) none Set.univ (m := aM) (r := putR l) (S := Finset.univ) (Finset.subset_univ _)) $$ H
  iintro H
  iapply (le_wp_ret _ _ _ _ _)
  iexists _
  isplitr
  rotate_left
  · iexact H
  ipureintro
  exact row_put x g l hl f hf

variable {d i} in
/-- The maxima of the task's graph `g` stored and copied out. -/
theorem flush_spec (x : Vec F S64x4096x128 .f32) (g : ℕ) (hg : g < 2) (s : DmaSems sig S_) {O : CellTallies nD τ sig (HIx 1)} (W : Waits sig (HIx 1))
    (hO : ∀ g, O g none = 0) :
    iprop((∃ f, aPts d i f) ∗ (∃ f, ⌜Out i x g f⌝ ∗ oPts d i f) ∗ semVal (thr d i, SemLoc.dma s.sem) 0 ∗ Env d i O W)
      ⊢ WP d i (flush i oM aM (Memref.isWhole_whole _) g s (accOf x (g0 i + g) 4096))
          fun _ => iprop((∃ f, aPts d i f) ∗ (∃ f, ⌜Out i x (g + 1) f⌝ ∗ oPts d i f) ∗ semVal (thr d i, SemLoc.dma s.sem) 0 ∗ Env d i O W) := by
  have hp := fun l hl => WP.keep (R := iprop((∃ f, ⌜Out i x g f⌝ ∗ oPts d i f) ∗ semVal (thr d i, SemLoc.dma s.sem) 0 ∗ Env d i O W))
    (put_spec (d := d) (i := i) x (g0 i + g) l hl)
  unfold flush
  refine .trans ?_ (WP.seq (hp 0 (by decide)) fun _ => ?_)
  · iintro ⟨⟨%f, Ha⟩, H⟩
    isplitl [Ha]
    · iexists f
      isplitr
      · ipureintro; intro y hy; exact absurd hy (by omega)
      iexact Ha
    iexact H
  refine WP.seq (hp 1 (by decide)) fun _ => ?_
  refine WP.seq (hp 2 (by decide)) fun _ => ?_
  refine WP.seq (hp 3 (by decide)) fun _ => ?_
  refine WP.seq (hp 4 (by decide)) fun _ => ?_
  refine WP.seq (hp 5 (by decide)) fun _ => ?_
  refine WP.seq (hp 6 (by decide)) fun _ => ?_
  refine WP.seq (hp 7 (by decide)) fun _ => ?_
  unfold Env WP
  iintro ⟨⟨%a, %ha, Ha⟩, ⟨%f, %hf, Ho⟩, Hv, #Hlv, ⟨%W', %hW, HO⟩⟩
  have hset : aM.view.set = Finset.univ := View.set_whole _
  have hN0 : 0 < (dstM i oM g).view.amount (SemLoc.dma s.sem) := View.amount_pos _ _ (by decide)
  ihave Ha := (Entails.of_eq (show (aPts d i a : sProp 𝕄) = (aM.view.loc (thr d i) ↦[aM.view.set]{fullShare} a) by rw [hset])) $$ Ha
  iapply (Transfers.wp_dmaLocal countersEmb 𝒱₀ (thr d i) none (src := aM) (dst := dstM i oM g) (via := .same) (default : HIx 1) _ rfl hN0 (dst_sub i g)) $$ [Ha Ho Hv]
  · isplitl [Ha]; · iexact Ha
    isplitl [Ho]; · iexact Ho
    iexact Hv
  iintro Hf
  ihave Hmw := (show levAts (K (F := F)).L (K (F := F)).lev ⊢ Transfers.MayWaits (thr d i) (default : HIx 1) O from
    (K (F := F)).mayWaits_none (thr := thr d i) hO) $$ Hlv
  ihave Hmw' := (Transfers.MayWaits.elim (SemLoc.dma s.sem)) $$ Hmw
  iapply (Transfers.wp_waitLocalO countersEmb 𝒱₀ (thr d i) none (sem := s.sem) (srcw := aM) (dstw := dstM i oM g) (default : HIx 1) rfl) $$ [Hf HO Hmw']
  · isplitl [Hf]; · iexact Hf
    isplitl [HO]; · iexact HO
    iexact Hmw'
  iintro ⟨⟨Ho, Ha⟩, Hv, HO⟩
  iapply (le_wp_ret _ _ _ _ _)
  isplitl [Ha]
  · iexists a
    iapply (Entails.of_eq (show (aM.view.loc (thr d i) ↦[aM.view.set]{fullShare} a : sProp 𝕄) = aPts d i a by rw [hset])) $$ Ha
  isplitl [Ho]
  · iexists _
    isplitr
    rotate_left
    · iexact Ho
    ipureintro
    exact out_copy i x g hg f hf a ha
  isplitl [Hv]; · iexact Hv
  isplitr; · iexact Hlv
  iexists _
  isplitr
  rotate_left
  · iexact HO
  ipureintro
  intro p hp
  rcases Finset.mem_insert.mp hp with rfl | hp
  · exact Or.inr rfl
  · exact hW p hp

/-! ## The task -/

variable {d i} in
/-- A whole task: from free slots and the rows of its two graphs at anything, to free slots and the rows at the result. -/
theorem body_spec (q : PosShare TreeShare) (x : Vec F S64x4096x128 .f32) (s0 s1 : DmaSems sig S_) {O : CellTallies nD τ sig (HIx 1)} (W : Waits sig (HIx 1))
    (hO : ∀ g, O g none = 0) :
    iprop((Free d i q x 0 ∗ Free d i q x 1 ∗ Free d i q x 2) ∗ (∃ f, aPts d i f) ∗ (∃ f, oPts d i f)
        ∗ semVal (thr d i, SemLoc.dma s0.sem) 0 ∗ semVal (thr d i, SemLoc.dma s1.sem) 0 ∗ Env d i O W)
      ⊢ WP d i (body i xM oM sM aM (Memref.isWhole_whole _) cc0_scratch2 s0 s1)
          fun _ => iprop((Free d i q x 0 ∗ Free d i q x 1 ∗ Free d i q x 2) ∗ (∃ f, aPts d i f) ∗ oPts d i (G x)
            ∗ semVal (thr d i, SemLoc.dma s0.sem) 0 ∗ semVal (thr d i, SemLoc.dma s1.sem) 0 ∗ Env d i O W) := by
  unfold body
  refine .trans ?_ (WP.seq (WP.keep (R := iprop((Free d i q x 1 ∗ Free d i q x 2) ∗ (∃ f, aPts d i f) ∗ (∃ f, ⌜Out i x 0 f⌝ ∗ oPts d i f)
        ∗ semVal (thr d i, SemLoc.dma s0.sem) 0 ∗ semVal (thr d i, SemLoc.dma s1.sem) 0 ∗ Env d i O W)) (issue_spec q x 0)) fun _ => ?_)
  · iintro ⟨⟨H0, H1⟩, Ha, ⟨%f, Ho⟩, H⟩
    isplitl [H0]; · iexact H0
    isplitl [H1]; · iexact H1
    isplitl [Ha]; · iexact Ha
    isplitl [Ho]
    · iexists f
      isplitr
      · ipureintro; intro y h1 h2; omega
      iexact Ho
    iexact H
  refine .trans ?_ (WP.seq (WP.keep (R := iprop(Busy d i q x 0 ∗ Free d i q x 2 ∗ (∃ f, aPts d i f) ∗ (∃ f, ⌜Out i x 0 f⌝ ∗ oPts d i f)
        ∗ semVal (thr d i, SemLoc.dma s0.sem) 0 ∗ semVal (thr d i, SemLoc.dma s1.sem) 0 ∗ Env d i O W)) (issue_spec q x 1)) fun _ => ?_)
  · iintro ⟨H0, ⟨H1, H2⟩, H⟩
    isplitl [H1]; · iexact H1
    isplitl [H0]; · iexact H0
    isplitl [H2]; · iexact H2
    iexact H
  have s0' := steps_spec (d := d) (i := i) q x 0 (by decide) W hO 16 0 (by decide)
  refine .trans ?_ (WP.seq (WP.keep (R := iprop((∃ f, aPts d i f) ∗ (∃ f, ⌜Out i x 0 f⌝ ∗ oPts d i f)
        ∗ semVal (thr d i, SemLoc.dma s0.sem) 0 ∗ semVal (thr d i, SemLoc.dma s1.sem) 0)) s0') fun a => ?_)
  · iintro ⟨H1, H0, H2, Ha, Ho, Hv0, Hv1, He⟩
    isplitl [H0 H1 H2 He]
    · isplitl [H0]; · iapply (Entails.of_eq (show Busy d i q x 0 = St d i q x (16 * 0 + 0) from (if_pos (by decide)).symm)) $$ H0
      isplitl [H1]; · iapply (Entails.of_eq (show Busy d i q x 1 = St d i q x (16 * 0 + 0 + 1) from (if_pos (by decide)).symm)) $$ H1
      isplitl [H2]; · iexact H2
      iexact He
    isplitl [Ha]; · iexact Ha
    isplitl [Ho]; · iexact Ho
    isplitl [Hv0]; · iexact Hv0
    iexact Hv1
  refine .trans sep_assoc.1 (pure_left fun ha => ?_)
  subst ha
  have f0 := flush_spec (d := d) (i := i) x 0 (by decide) s0 W hO
  refine .trans ?_ (WP.seq (WP.keep (R := iprop(St d i q x 16 ∗ St d i q x 17 ∗ Free d i q x 18 ∗ semVal (thr d i, SemLoc.dma s1.sem) 0)) f0) fun _ => ?_)
  · iintro ⟨⟨H0, H1, H2, He⟩, Ha, Ho, Hv0, Hv1⟩
    isplitl [Ha Ho Hv0 He]
    · isplitl [Ha]; · iexact Ha
      isplitl [Ho]; · iexact Ho
      isplitl [Hv0]; · iexact Hv0
      iexact He
    isplitl [H0]; · iexact H0
    isplitl [H1]; · iexact H1
    isplitl [H2]; · iexact H2
    iexact Hv1
  have s1' := steps_spec (d := d) (i := i) q x 1 (by decide) W hO 16 0 (by decide)
  refine .trans ?_ (WP.seq (WP.keep (R := iprop((∃ f, aPts d i f) ∗ (∃ f, ⌜Out i x 1 f⌝ ∗ oPts d i f)
        ∗ semVal (thr d i, SemLoc.dma s0.sem) 0 ∗ semVal (thr d i, SemLoc.dma s1.sem) 0)) s1') fun a => ?_)
  · iintro ⟨⟨Ha, Ho, Hv0, He⟩, H0, H1, H2, Hv1⟩
    isplitl [H0 H1 H2 He]
    · isplitl [H0]; · iexact H0
      isplitl [H1]; · iexact H1
      isplitl [H2]; · iexact H2
      iexact He
    isplitl [Ha]; · iexact Ha
    isplitl [Ho]; · iexact Ho
    isplitl [Hv0]; · iexact Hv0
    iexact Hv1
  refine .trans sep_assoc.1 (pure_left fun ha => ?_)
  subst ha
  have f1 := flush_spec (d := d) (i := i) x 1 (by decide) s1 W hO
  refine .trans ?_ (WP.post (WP.keep (R := iprop(St d i q x 32 ∗ St d i q x 33 ∗ Free d i q x 34 ∗ semVal (thr d i, SemLoc.dma s0.sem) 0)) f1) fun _ => ?_)
  · iintro ⟨⟨H0, H1, H2, He⟩, Ha, Ho, Hv0, Hv1⟩
    isplitl [Ha Ho Hv1 He]
    · isplitl [Ha]; · iexact Ha
      isplitl [Ho]; · iexact Ho
      isplitl [Hv1]; · iexact Hv1
      iexact He
    isplitl [H0]; · iexact H0
    isplitl [H1]; · iexact H1
    isplitl [H2]; · iexact H2
    iexact Hv0
  rw [show St d i q x 32 = Free d i q x 2 from (if_neg (by decide)).trans (slot_mod d i (by decide) q x),
    show St d i q x 33 = Free d i q x 0 from (if_neg (by decide)).trans (slot_mod d i (by decide) q x),
    show Free d i q x 34 = Free d i q x 1 from slot_mod d i (by decide) q x]
  iintro ⟨⟨Ha, ⟨%f, %hf, Ho⟩, Hv1, He⟩, H2, H0, H1, Hv0⟩
  isplitl [H0 H1 H2]
  · isplitl [H0]; · iexact H0
    isplitl [H1]; · iexact H1
    iexact H2
  isplitl [Ha]; · iexact Ha
  isplitl [Ho]
  · have hG : ∀ y ∈ outSet i, f y = G x y := fun y hy => by
      have := mem_outSet.mp hy
      exact hf y (by omega) (by omega)
    iapply (Entails.of_eq (pointsTo_congr hG)) $$ Ho
  isplitl [Hv0]; · iexact Hv0
  isplitl [Hv1]; · iexact Hv1
  iexact He

end Tile

end Cert.Proof.Pool

end
-- ==== Proof.Launch.lean ====
/-
  The launch: the argument's shares and the result's rows dealt to the thirty-two tasks, each task run, the rows joined.
-/
module

public import proofs.«01_k».proof.Proof.Step
public import Idealize.ShloMosaic.Lib.ShareLeaves
public import Idealize.ShloMosaic.Lib.Ring

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf)

variable {F : FTy → Type}

/-- The call runs on two cores. -/
theorem nCore_zero : (K (F := F)).nCore 0 = 2 := rfl
/-- The call runs on sixteen tiles of each core. -/
theorem nSub_zero : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none

/-- The call's four handshake semaphores are distinct and unscoped where they have to be. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

abbrev xLoc (d : Dev nD) : Loc nD τ sig := (SparseCore.T d).loc main_arg0
abbrev oLoc (d : Dev nD) : Loc nD τ sig := (SparseCore.T d).loc main_v0

/-- The grid point of task `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- Core `c`'s share of the argument, and its task `s`'s. -/
abbrev cq (c : Fin 2) : PosShare TreeShare := leaf 1 fullShare c
abbrev tq (c : Fin 2) (s : Fin 16) : PosShare TreeShare := leaf 4 (cq c) s

/-- The rows of the result core `c`'s tasks leave, and those its task `s` does. -/
def coreSet (c : Fin 2) : Finset S64x128.Idx := Finset.univ.filter fun y => (y 0).val / 2 % 2 = c.val
abbrev taskSet (c : Fin 2) (s : Fin 16) : Finset S64x128.Idx := outSet (coordsV c s)

/-- An element of the result is core `c`'s where its pair of graphs is numbered `c` modulo two. -/
theorem mem_coreSet {c : Fin 2} {y : S64x128.Idx} : y ∈ coreSet c ↔ (y 0).val / 2 % 2 = c.val := by simp [coreSet]
/-- An element of the result is of task `s` of core `c` where its row is one of that task's two graphs. -/
theorem mem_taskSet {c : Fin 2} {s : Fin 16} {y : S64x128.Idx} : y ∈ taskSet c s ↔ (y 0).val / 2 * 2 = 4 * s.val + 2 * c.val := mem_outSet

variable [FloatOps F]

/-- The result, from the launch memory. -/
abbrev res (d : Dev nD) : Vec F S64x128 .f32 := G (m (xLoc d))

abbrev coreRes (d : Dev nD) (f : Buf (Elt F) (oLoc d)) (c : Fin 2) : sProp 𝕄 := iprop((xLoc d ↦{cq c} m (xLoc d)) ∗ oLoc d ↦[coreSet c]{fullShare} f)
abbrev tileRes (d : Dev nD) (q : PosShare TreeShare) (S : Finset S64x128.Idx) (f : Vec F S64x128 .f32) : sProp 𝕄 :=
  iprop((xLoc d ↦{q} m (xLoc d)) ∗ oLoc d ↦[S]{fullShare} f)
abbrev taskRes (d : Dev nD) (f : Buf (Elt F) (oLoc d)) (c : Fin 2) (s : Fin 16) : sProp 𝕄 :=
  iprop((xLoc d ↦{tq c s} m (xLoc d)) ∗ oLoc d ↦[taskSet c s]{fullShare} f)

/-- Each core takes a share of the argument and its rows of the result, and brings them back, the rows at the maxima; each
    task likewise. -/
def P : (K (F := F)).Pay (nD := nD) (Val := Elt F) (Name := ℕ) (U := UU) where
  st := fun q d c => match q with | 0 => coreRes m d (m (oLoc d)) (Fin.cast nCore_zero c)
  dn := fun q d c => match q with | 0 => coreRes m d (res m d) (Fin.cast nCore_zero c)
  go := fun q d c i => match q with | 0 => taskRes m d (m (oLoc d)) (Fin.cast nCore_zero c) (Fin.cast nSub_zero i)
  td := fun q d c i => match q with | 0 => taskRes m d (res m d) (Fin.cast nCore_zero c) (Fin.cast nSub_zero i)
  x := fun _ _ => iprop(emp)

instance P_storable : (P (F := F) m).IsStorable where
  st q d c := match q with
    | 0 => (inferInstance : BI.Storable (upEmb : UEmb _ 𝕄) (coreRes m d (m (oLoc d)) (Fin.cast nCore_zero c)))
  dn q d c := match q with
    | 0 => (inferInstance : BI.Storable (upEmb : UEmb _ 𝕄) (coreRes m d (res m d) (Fin.cast nCore_zero c)))
  go q d c i := match q with
    | 0 => (inferInstance : BI.Storable (upEmb : UEmb _ 𝕄) (taskRes m d (m (oLoc d)) (Fin.cast nCore_zero c) (Fin.cast nSub_zero i)))
  td q d c i := match q with
    | 0 => (inferInstance : BI.Storable (upEmb : UEmb _ 𝕄) (taskRes m d (res m d) (Fin.cast nCore_zero c) (Fin.cast nSub_zero i)))

/-! ## The task -/

section Tile

variable (d : Dev nD) (i : grid0.Coords)

/-- The task's five semaphores: the slots' three and the two copies' out. -/
abbrev slotCell (u : ℕ) : GSem nD τ sig := (thr d i, .dma (slotS cc0_scratch2 u))
abbrev outCell0 : GSem nD τ sig := (thr d i, .dma cc0_scoped0.sem)
abbrev outCell1 : GSem nD τ sig := (thr d i, .dma cc0_scoped1.sem)

omit [FloatOps F] in
/-- Every slot's semaphore is among the subcore's own. -/
theorem slotCell_own (u : ℕ) : slotCell d i u ∈ ownCells (thr d i) := by
  refine (mem_ownCells (g := slotCell d i u)).mpr ⟨rfl, ?_⟩
  show (SemLoc.dma (slotS cc0_scratch2 u) : SemLoc sig).isScoped .scVector = true
  rw [slotS_mod (v := u % 3) (by omega)]
  have : u % 3 < 3 := Nat.mod_lt _ (by decide)
  interval_cases u % 3 <;> decide

omit [FloatOps F] in
/-- Different semaphores of one subcore are different cells. -/
theorem cell_ne {a b : DmaSem sig} (h : a ≠ b) : ((thr d i, SemLoc.dma a) : GSem nD τ sig) ≠ (thr d i, SemLoc.dma b) := fun e =>
  h (SemLoc.dma.inj (Prod.mk.inj e).2)

omit [FloatOps F] in
/-- The five semaphores are among the subcore's own: they are them and the rest. -/
theorem ownSems0_V :
    ∃ rest, (ownSems0 (thr d i) : sProp 𝕄)
      = iprop(semVal (slotCell d i 0) 0 ∗ semVal (slotCell d i 1) 0 ∗ semVal (slotCell d i 2) 0 ∗ semVal (outCell0 d i) 0 ∗ semVal (outCell1 d i) 0 ∗ rest) := by
  have h0 : slotCell d i 0 ∈ ownCells (thr d i) := slotCell_own d i 0
  have h1 : slotCell d i 1 ∈ (ownCells (thr d i)).erase (slotCell d i 0) := Finset.mem_erase.mpr ⟨cell_ne d i (by decide), slotCell_own d i 1⟩
  have h2 : slotCell d i 2 ∈ ((ownCells (thr d i)).erase (slotCell d i 0)).erase (slotCell d i 1) :=
    Finset.mem_erase.mpr ⟨cell_ne d i (by decide), Finset.mem_erase.mpr ⟨cell_ne d i (by decide), slotCell_own d i 2⟩⟩
  have h3 : outCell0 d i ∈ (((ownCells (thr d i)).erase (slotCell d i 0)).erase (slotCell d i 1)).erase (slotCell d i 2) :=
    Finset.mem_erase.mpr ⟨cell_ne d i (by decide), Finset.mem_erase.mpr ⟨cell_ne d i (by decide), Finset.mem_erase.mpr ⟨cell_ne d i (by decide),
      (mem_ownCells (g := outCell0 d i)).mpr ⟨rfl, by show (SemLoc.dma cc0_scoped0.sem : SemLoc sig).isScoped .scVector = true; decide⟩⟩⟩⟩
  have h4 : outCell1 d i ∈ ((((ownCells (thr d i)).erase (slotCell d i 0)).erase (slotCell d i 1)).erase (slotCell d i 2)).erase (outCell0 d i) :=
    Finset.mem_erase.mpr ⟨cell_ne d i (by decide), Finset.mem_erase.mpr ⟨cell_ne d i (by decide), Finset.mem_erase.mpr ⟨cell_ne d i (by decide),
      Finset.mem_erase.mpr ⟨cell_ne d i (by decide),
      (mem_ownCells (g := outCell1 d i)).mpr ⟨rfl, by show (SemLoc.dma cc0_scoped1.sem : SemLoc sig).isScoped .scVector = true; decide⟩⟩⟩⟩⟩
  unfold SparseCore.Cfg.ownSems0
  exact ⟨_, by rw [SparseCore.bigSep_erase' h0, SparseCore.bigSep_erase' h1, SparseCore.bigSep_erase' h2, SparseCore.bigSep_erase' h3, SparseCore.bigSep_erase' h4]⟩

omit [FloatOps F] in
/-- The two scratch buffers are among the subcore's own: they are them, at some contents, and the rest. -/
theorem ownBufs_V :
    ∃ rest, (ownBufs (thr d i) : sProp 𝕄)
      = iprop((∃ f, (thr d i).loc cc0_scratch0 ↦{fullShare} f) ∗ (∃ f, (thr d i).loc cc0_scratch1 ↦{fullShare} f) ∗ rest) := by
  unfold SparseCore.Cfg.ownBufs
  refine ⟨bigSep (((ownRefs (τ := τ) (.scVector (cV i) (jV i))).erase ((Proc.scVector (cV i) (jV i)).devRef cc0_scratch0)).erase
    ((Proc.scVector (cV i) (jV i)).devRef cc0_scratch1)) fun b => iprop(∃ f, ((d, b) : Loc nD τ sig) ↦{fullShare} f), (SparseCore.bigSep_erase' (SparseCore.Cfg.mem_ownRefs_of_owner (p := Proc.scVector (cV i) (jV i))
    (b := (Proc.scVector (cV i) (jV i)).devRef cc0_scratch0) rfl)).trans ?_⟩
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV i) (jV i)) (b := (Proc.scVector (cV i) (jV i)).devRef cc0_scratch1) rfl⟩)]

/-- Different slots share no element. -/
theorem slots_disjoint : ∀ a ∈ (Finset.univ : Finset (Fin 3)), ∀ b ∈ (Finset.univ : Finset (Fin 3)), a ≠ b → Disjoint (slotSet a.val) (slotSet b.val) := by
  intro a _ b _ hab
  refine Finset.disjoint_left.mpr fun y ha hb => hab (Fin.ext ?_)
  rw [mem_slotSet] at ha hb
  omega
/-- The three slots are the whole staging buffer. -/
theorem slots_cover : (Finset.univ : Finset (Fin 3)).biUnion (fun a => slotSet a.val) = Finset.univ := by
  refine Finset.eq_univ_of_forall fun y => Finset.mem_biUnion.mpr ⟨⟨(y 0).val, (y 0).isLt⟩, Finset.mem_univ _, ?_⟩
  rw [mem_slotSet]
  exact (Nat.mod_eq_of_lt (y 0).isLt).symm

/-- The staging buffer whole is its three slots. -/
theorem slots_split (f : Vec F S3x256x128 .f32) :
    ((thr d i).loc cc0_scratch0 ↦{fullShare} f : sProp 𝕄) = iprop(slotPts d i 0 f ∗ slotPts d i 1 f ∗ slotPts d i 2 f) := by
  rw [← slots_cover, pointsTo_biUnion (ℓ := (thr d i).loc cc0_scratch0) Finset.univ (fun a : Fin 3 => slotSet a.val) slots_disjoint, Ring.bigSep_fin3]
  rfl

/-- The three slots, at any contents, are the staging buffer at some. -/
theorem slots_join : iprop((∃ f, slotPts d i 0 f) ∗ (∃ f, slotPts d i 1 f) ∗ (∃ f, slotPts d i 2 f)) ⊢ (iprop(∃ f, (thr d i).loc cc0_scratch0 ↦{fullShare} f) : sProp 𝕄) := by
  iintro ⟨⟨%f0, H0⟩, ⟨%f1, H1⟩, ⟨%f2, H2⟩⟩
  ihave H := (pointsTo_biUnion_join (ℓ := (thr d i).loc cc0_scratch0) (q := fullShare) (Val := Elt F) Finset.univ (fun a : Fin 3 => slotSet a.val)
    ![f0, f1, f2] f0 slots_disjoint) $$ [H0 H1 H2]
  · rw [Ring.bigSep_fin3]
    isplitl [H0]; · iexact H0
    isplitl [H1]; · iexact H1
    iexact H2
  icases H with ⟨%g, -, H⟩
  rw [slots_cover]
  iexists g; iexact H

omit [FloatOps F] in
/-- Three resources held together, read with the brackets on the right. -/
theorem regroup (A B C : sProp 𝕄) : iprop((A ∗ B) ∗ C) = iprop(A ∗ B ∗ C) :=
  BI.Entails.antisymm (show iprop((A ∗ B) ∗ C) ⊢ iprop(A ∗ B ∗ C) from sep_assoc.1) (show iprop(A ∗ B ∗ C) ⊢ iprop((A ∗ B) ∗ C) from sep_assoc.2)

/-- The task's share of the argument is its three slots' shares. -/
theorem shares_split (q : PosShare TreeShare) (x : Vec F S64x4096x128 .f32) :
    (xPts d i q Finset.univ x : sProp 𝕄) = iprop(xPts d i (xs q 0) Finset.univ x ∗ xPts d i (xs q 1) Finset.univ x ∗ xPts d i (xs q 2) Finset.univ x) := by
  show _ = iprop(xPts d i q.left.left Finset.univ x ∗ xPts d i q.left.right Finset.univ x ∗ xPts d i q.right Finset.univ x)
  unfold xPts
  rw [BI.Entails.antisymm (pointsTo_share (PosShare.mem_left_op_right q)).1 (pointsTo_share (PosShare.mem_left_op_right q)).2,
    BI.Entails.antisymm (pointsTo_share (PosShare.mem_left_op_right q.left)).1 (pointsTo_share (PosShare.mem_left_op_right q.left)).2]
  exact regroup _ _ _

/-- The task on a vector subcore, from what the launch hands it to what it hands back. -/
theorem tile_body (hF : (K (F := F)).Facts) (q : PosShare TreeShare) (f₀ : Vec F S64x128 .f32) (O : CellTallies nD τ sig (HIx 1)) (W : Waits sig (HIx 1)) (hO : ∀ g, O g none = 0) :
    iprop(levAts (K (F := F)).L (K (F := F)).lev ∗ emp
        ∗ tileRes m d q (outSet i) f₀
        ∗ scopedBufs (thr d i) ∗ scopedSems0 (thr d i) ∗ owes (thr d i) O W)
      ⊢ wp frame (wpE (defs₀ (F := F)) 𝒱₀ (thr d i) none) Set.univ
          (cc0__pool_body i xM (Memref.isWhole_whole _) oM (Memref.isWhole_whole _) sM (Memref.isWhole_whole _) aM (Memref.isWhole_whole _)
            cc0_scratch2 cc0_scoped0 cc0_scoped1)
          fun _ => iprop(tileRes m d q (outSet i) (res m d)
            ∗ scopedBufs (thr d i) ∗ scopedSems0 (thr d i)
            ∗ ∃ W', ⌜∀ p ∈ W', p ∈ W ∨ p.2 = none⌝ ∗ owes (thr d i) O W') := by
  obtain ⟨Rs, hRs⟩ := ownSems0_V (F := F) d i
  obtain ⟨Rb, hRb⟩ := ownBufs_V (F := F) d i
  rw [body_eq, (K (F := F)).scopedBufs_V hF d (cV i) (jV i), SparseCore.Cfg.scopedSems0_V (Val := Elt F) d (cV i) (jV i), hRs, hRb]
  refine .trans ?_ (WP.post (WP.keep (R := iprop(Rb ∗ Rs)) (body_spec (d := d) (i := i) q (m (xLoc d)) cc0_scoped0 cc0_scoped1 W hO)) fun _ => ?_)
  · iintro ⟨#Hlv, -, ⟨Hx, Ho⟩, ⟨⟨%fs, Hs⟩, ⟨%fa, Ha⟩, Hb⟩, ⟨Hv0, Hv1, Hv2, Hw0, Hw1, Hr⟩, HO⟩
    ihave Hx' := (Entails.of_eq (shares_split d i q (m (xLoc d)))) $$ Hx
    icases Hx' with ⟨Hx0, Hx1, Hx2⟩
    ihave Hs' := (Entails.of_eq (slots_split d i fs)) $$ Hs
    icases Hs' with ⟨Hs0, Hs1, Hs2⟩
    unfold Free Env
    isplitr [Hb Hr]
    rotate_left
    · isplitl [Hb]; · iexact Hb
      iexact Hr
    isplitl [Hx0 Hx1 Hx2 Hs0 Hs1 Hs2 Hv0 Hv1 Hv2]
    · isplitl [Hx0 Hs0 Hv0]
      · isplitl [Hs0]; · iexists fs; iexact Hs0
        isplitl [Hv0]; · iexact Hv0
        iexact Hx0
      isplitl [Hx1 Hs1 Hv1]
      · isplitl [Hs1]; · iexists fs; iexact Hs1
        isplitl [Hv1]; · iexact Hv1
        iexact Hx1
      isplitl [Hs2]; · iexists fs; iexact Hs2
      isplitl [Hv2]; · iexact Hv2
      iexact Hx2
    isplitl [Ha]; · iexists fa; iexact Ha
    isplitl [Ho]; · iexists f₀; iexact Ho
    isplitl [Hw0]; · iexact Hw0
    isplitl [Hw1]; · iexact Hw1
    isplitr; · iexact Hlv
    iexists W
    isplitr
    · ipureintro; exact fun p hp => Or.inl hp
    iexact HO
  · unfold Free Env
    iintro ⟨⟨⟨⟨Hs0, Hv0, Hx0⟩, ⟨Hs1, Hv1, Hx1⟩, ⟨Hs2, Hv2, Hx2⟩⟩, Ha, Ho, Hw0, Hw1, -, HO⟩, Hb, Hr⟩
    isplitl [Hx0 Hx1 Hx2 Ho]
    · isplitr [Ho]
      · iapply (Entails.of_eq (shares_split d i q (m (xLoc d))).symm)
        isplitl [Hx0]; · iexact Hx0
        isplitl [Hx1]; · iexact Hx1
        iexact Hx2
      iexact Ho
    isplitl [Hs0 Hs1 Hs2 Ha Hb]
    · isplitl [Hs0 Hs1 Hs2]
      · iapply (slots_join d i)
        isplitl [Hs0]; · iexact Hs0
        isplitl [Hs1]; · iexact Hs1
        iexact Hs2
      isplitl [Ha]; · iexact Ha
      iexact Hb
    isplitr [HO]
    · isplitl [Hv0]; · iexact Hv0
      isplitl [Hv1]; · iexact Hv1
      isplitl [Hv2]; · iexact Hv2
      isplitl [Hw0]; · iexact Hw0
      isplitl [Hw1]; · iexact Hw1
      iexact Hr
    iexact HO

/-! ## The obligation -/

/-- What the launch calls on a vector subcore is the kernel's body at that subcore's grid point. -/
theorem defs₀_vector (c : Fin τ.nSC) (s : Fin τ.nSub) :
    defs₀ (F := F) (.scVector c s) 0 ()
      = SparseCore.onTile hcore0 hsub0 (fun c s => cc0__pool_body (coordsV c s)
          xM (Memref.isWhole_whole _) oM (Memref.isWhole_whole _) sM (Memref.isWhole_whole _) aM (Memref.isWhole_whole _)
          cc0_scratch2 cc0_scoped0 cc0_scoped1) ⟨⟩ c s := rfl

omit [FloatOps F] in
/-- The waits a task made are among those the launch allows it. -/
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task runs, from what the launch hands it to what the launch takes back. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF (tq (Fin.cast nCore_zero c) (Fin.cast nSub_zero i)) (m (oLoc d)) O W hO).trans
    (wp_mono frame _ _ fun _ => obl_post)

end Tile

/-! ## The rows and the shares, split and joined -/

/-- The two cores write different rows. -/
theorem cores_disjoint : ∀ a ∈ (Finset.univ : Finset (Fin 2)), ∀ b ∈ (Finset.univ : Finset (Fin 2)), a ≠ b → Disjoint (coreSet a) (coreSet b) := by
  intro a _ b _ hab
  refine Finset.disjoint_left.mpr fun y ha hb => hab (Fin.ext ?_)
  rw [mem_coreSet] at ha hb
  omega
/-- The two cores together write every row. -/
theorem cores_cover : (Finset.univ : Finset (Fin 2)).biUnion coreSet = Finset.univ := by
  refine Finset.eq_univ_of_forall fun y => Finset.mem_biUnion.mpr ⟨⟨(y 0).val / 2 % 2, Nat.mod_lt _ (by decide)⟩, Finset.mem_univ _, ?_⟩
  rw [mem_coreSet]
/-- Different tasks of a core write different rows. -/
theorem tasks_disjoint (c : Fin 2) : ∀ a ∈ (Finset.univ : Finset (Fin 16)), ∀ b ∈ (Finset.univ : Finset (Fin 16)), a ≠ b → Disjoint (taskSet c a) (taskSet c b) := by
  intro a _ b _ hab
  refine Finset.disjoint_left.mpr fun y ha hb => hab (Fin.ext ?_)
  rw [mem_taskSet] at ha hb
  omega
/-- A core's tasks together write the core's rows. -/
theorem tasks_cover (c : Fin 2) : (Finset.univ : Finset (Fin 16)).biUnion (taskSet c) = coreSet c := by
  ext y
  have hy : (y 0).val < 64 := (y 0).isLt
  simp only [Finset.mem_biUnion, Finset.mem_univ, true_and]
  constructor
  · rintro ⟨s, hs⟩
    rw [mem_taskSet] at hs
    rw [mem_coreSet]; omega
  · intro h
    rw [mem_coreSet] at h
    exact ⟨⟨(y 0).val / 4, by omega⟩, mem_taskSet.mpr (show (y 0).val / 2 * 2 = 4 * ((y 0).val / 4) + 2 * c.val by omega)⟩

/-- The argument and the result whole are the cores' parts. -/
theorem cores_split (d : Dev nD) (f : Buf (Elt F) (oLoc d)) :
    (iprop((xLoc d ↦{fullShare} m (xLoc d)) ∗ oLoc d ↦{fullShare} f) : sProp 𝕄) = bigSep Finset.univ fun c : Fin 2 => coreRes m d f c := by
  unfold coreRes
  rw [bigSep_sep', ← pointsTo_biUnion Finset.univ (ℓ := oLoc d) coreSet cores_disjoint, cores_cover,
    ShareLeaves.pointsTo_leaves Finset.univ (m (xLoc d)) 1 fullShare]
  rfl

/-- A core's parts are its tasks'. -/
theorem tasks_split (d : Dev nD) (f : Buf (Elt F) (oLoc d)) (c : Fin 2) :
    (coreRes m d f c : sProp 𝕄) = bigSep Finset.univ fun s : Fin 16 => taskRes m d f c s := by
  unfold coreRes taskRes
  rw [bigSep_sep', ← pointsTo_biUnion Finset.univ (ℓ := oLoc d) (taskSet c) (tasks_disjoint c), tasks_cover,
    ShareLeaves.pointsTo_leaves Finset.univ (m (xLoc d)) 4 (cq c)]
  rfl

omit [FloatOps F] in
/-- What is held for each of the call's tasks, over the sixteen numbers. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- What is held for each of the call's cores, over the two numbers. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core deals what it took to its tasks and joins what they bring back. -/
theorem vecSplit : (K (F := F)).VecSplit' (P m) 0 := by
  intro d c
  show coreRes m d (m (oLoc d)) (Fin.cast nCore_zero c) ⊢ |={Set.univ}=> iprop(
      (bigSep Finset.univ fun i : Fin ((K (F := F)).nSub 0) => taskRes m d (m (oLoc d)) (Fin.cast nCore_zero c) (Fin.cast nSub_zero i))
      ∗ ((bigSep Finset.univ fun i : Fin ((K (F := F)).nSub 0) => taskRes m d (res m d) (Fin.cast nCore_zero c) (Fin.cast nSub_zero i))
          -∗ coreRes m d (res m d) (Fin.cast nCore_zero c)))
  rw [bigSep_tasks (F := F) (fun i => taskRes m d (m (oLoc d)) (Fin.cast nCore_zero c) i), bigSep_tasks (F := F) (fun i => taskRes m d (res m d) (Fin.cast nCore_zero c) i),
    tasks_split, tasks_split]
  iintro H; imodintro
  isplitl [H]; · iexact H
  iintro H; iexact H

/-! ## The launch element of the ghost state -/

def u₀ : UU := (initOf (K (F := F)).hsCells (K (F := F)).hsToks, 1)

omit [FloatOps F] in
/-- Holding nothing for each of many is holding nothing. -/
theorem bigSep_emp' {I : Type} (s : Finset I) : (bigSep s fun _ => iprop(emp)) = (iprop(emp) : sProp 𝕄) := bigSep_emp_const s

/-- The launch's ghost state is the handshakes', with nothing beside. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun t : Thread nD τ => bigSep Finset.univ fun q : Fin 1 => (P (F := F) m).x q t) = bigSep Finset.univ fun _ => iprop(emp) from
    bigSep_congr fun _ _ => bigSep_univ_of_subsingleton (0 : Fin 1), bigSep_emp']
  iempintro

/-! ## @main on the TensorCore -/

omit [FloatOps F] in
/-- The TensorCore's buffers are the argument and the result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What the two cores take is the argument and the result's buffer as launched. -/
theorem st0_eq (d : Dev nD) : (bigSep Finset.univ fun c : Fin ((K (F := F)).nCore 0) => (P m).st 0 d c)
    = iprop((xLoc d ↦{fullShare} m (xLoc d)) ∗ oLoc d ↦{fullShare} m (oLoc d)) :=
  (bigSep_cores (F := F) fun c => coreRes m d (m (oLoc d)) c).trans (cores_split m d _).symm
/-- What the two cores bring back is the argument and the result at the maxima. -/
theorem dn0_eq (d : Dev nD) : (bigSep Finset.univ fun c : Fin ((K (F := F)).nCore 0) => (P m).dn 0 d c)
    = iprop((xLoc d ↦{fullShare} m (xLoc d)) ∗ oLoc d ↦{fullShare} res m d) :=
  (bigSep_cores (F := F) fun c => coreRes m d (res m d) c).trans (cores_split m d _).symm

abbrev FIN (d : Dev nD) : sProp 𝕄 := iprop((xLoc d ↦{fullShare} m (xLoc d)) ∗ oLoc d ↦{fullShare} res m d)

/-- @main on device `d`'s TensorCore: the one call, from the argument and the result's buffer; the argument kept, the
    result's buffer at the maxima. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho⟩, Hts, -⟩, -⟩
  iapply ((K (F := F)).wp_run (D (F := F)) 𝒱 (EH := EH) (P := P m) κ d 0) $$ [Hst Hx Ho Hb Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  imodintro
  isplitl [Hst]; · iexact Hst
  isplitr [Hb Hts]
  · iexact Hdn'
  isplitl [Hb] <;> iassumption

def fq (d : Dev nD) (s' : Phys nD τ sig (Elt F)) : Prop := s'.mem.mem (xLoc d) = m (xLoc d) ∧ s'.mem.mem (oLoc d) = res m d

set_option maxRecDepth 16384 in
/-- What @main ends with says what the memory holds. -/
theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := res m d)) $$ [HSI Ho]
  · isplitl [HSI] <;> iassumption
  icases H with %h2
  ipureintro; exact ⟨funext fun i => h1 i (Finset.mem_univ i), funext fun i => h2 i (Finset.mem_univ i)⟩

/-! ## The program's run -/

/-- Every final state: the argument as launched, the result the maxima, every semaphore zero. -/
def QC : PUnit × MemSt nD τ sig (Elt F) → Prop := fun r => (∀ c : Dev nD, r.2.mem (xLoc c) = m (xLoc c) ∧ r.2.mem (oLoc c) = res m c) ∧ r.2.sem = fun _ => 0

/-- The program runs, and ends so, at any float values. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Pool

end
-- ==== Proof.Value.lean ====
/-
  The reference's term is the kernel's result: over the extended reals both are the maximum of every graph's own rows.
-/
module

public import proofs.«01_k».proof.Proof.Coord
public import proofs.«01_k».proof.Proof.Gen.ReferenceIdeal
public import Idealize.ShloMosaic.Lib.Pipeline.Value
public import Idealize.ShloMosaic.Lib.WordCmp
public import Idealize.ShloMosaic.PureOps.Reduce

@[expose] public section

noncomputable section

namespace Cert.Proof.Value

open Cert.ReferenceIdeal Cert.ReferenceIdeal.Gen
open Idealize.ShloMosaic Idealize.ShloMosaic.ValueIdx
open Cert.Proof.Pool (xIx cm G)

/-- The graph that each of the 262144 rows belongs to, as the reference numbers them. -/
abbrev ids : IVec S262144 32 :=
  shapeCast _ (broadcastInDim S64x4096 ![0] bcast_S64_S64x4096_0 (iotaInDim S64 32 0)) shapeCasts_S64x4096_S262144

/-- Which rows belong to which graph. -/
abbrev member : IVec S64x262144 1 :=
  cmpi .eq (broadcastInDim S64x262144 ![0, 1] bcast_S1x262144_S64x262144_0_1 (broadcastInDim S1x262144 ![1] bcast_S262144_S1x262144_1 ids))
    (broadcastInDim S64x262144 ![0, 1] bcast_S64x1_S64x262144_0_1 (broadcastInDim S64x1 ![0] bcast_S64_S64x1_0 (iotaInDim S64 32 0)))

/-- The rows as each graph sees them: its own rows, and minus infinity in the place of the others. -/
abbrev seen (x : FVec Ideal S64x4096x128 .f32) : FVec Ideal S64x262144x128 .f32 :=
  select (broadcastInDim S64x262144x128 ![0, 1, 2] bcast_S64x262144x1_S64x262144x128_0_1_2
      (broadcastInDim S64x262144x1 ![0, 1] bcast_S64x262144_S64x262144x1_0_1 member))
    (broadcastInDim S64x262144x128 ![0, 1, 2] bcast_S1x262144x128_S64x262144x128_0_1_2
      (broadcastInDim S1x262144x128 ![1, 2] bcast_S262144x128_S1x262144x128_1_2 (shapeCast _ x shapeCasts_S64x4096x128_S262144x128)))
    (broadcastInDim S64x262144x128 ![] bcast_S_S64x262144x128 (id (constant S_ .f32 0xFF800000#32)))

/-- Row `r` belongs to graph `r / 4096`. -/
theorem ids_apply (r : Fin 262144) : ids (ix1 r) = BitVec.ofNat 32 (r.val / 4096) := by
  have hr := r.isLt
  refine (shapeCast_apply _ _ (ix1 r) (ix2 (⟨r.val / 4096, by omega⟩ : Fin 64) (⟨r.val % 4096, by omega⟩ : Fin 4096)) ?_).trans ?_
  · rw [Shape.rowMajor_val_two, Shape.rowMajor_val_one]
    show r.val / 4096 * 4096 + r.val % 4096 = r.val
    omega
  · refine (broadcastInDim_apply _ _ _ _ (ix1 (⟨r.val / 4096, by omega⟩ : Fin 64)) ?_).trans rfl
    intro a; fin_cases a; rfl

/-- Row `r` is a member of graph `b` exactly where `r / 4096` is `b`. -/
theorem member_apply (b : Fin 64) (r : Fin 262144) : member (ix2 b r) = BitVec.ofBool (decide (r.val / 4096 = b.val)) := by
  have hr := r.isLt
  have hb := b.isLt
  have h1 : broadcastInDim S64x262144 ![0, 1] bcast_S1x262144_S64x262144_0_1 (broadcastInDim S1x262144 ![1] bcast_S262144_S1x262144_1 ids) (ix2 b r)
      = BitVec.ofNat 32 (r.val / 4096) := by
    refine (broadcastInDim_apply _ _ _ _ (ix2 (0 : Fin 1) r) ?_).trans ((broadcastInDim_apply _ _ _ _ (ix1 r) ?_).trans (ids_apply r))
    · intro a; fin_cases a <;> rfl
    · intro a; fin_cases a; rfl
  have h2 : broadcastInDim S64x262144 ![0, 1] bcast_S64x1_S64x262144_0_1 (broadcastInDim S64x1 ![0] bcast_S64_S64x1_0 (iotaInDim S64 32 0)) (ix2 b r)
      = BitVec.ofNat 32 b.val := by
    refine (broadcastInDim_apply _ _ _ _ (ix2 b (0 : Fin 1)) ?_).trans ((broadcastInDim_apply _ _ _ _ (ix1 b) ?_).trans rfl)
    · intro a; fin_cases a <;> rfl
    · intro a; fin_cases a; rfl
  show IntOp.cmpi .eq _ _ = _
  rw [h1, h2]
  exact WordCmp.cmpi_eq_ofNat (by omega) (by omega)

/-- Graph `b` sees row `r` as it is where the row is its own, and as minus infinity elsewhere. -/
theorem seen_apply (x : FVec Ideal S64x4096x128 .f32) (b : Fin 64) (r : Fin 262144) (l : Fin 128) :
    seen x (ix3 b r l) = if r.val / 4096 = b.val then x (xIx (r.val / 4096) (r.val % 4096) l.val) else Ideal.ofBits .f32 0xFF800000#32 := by
  have hr := r.isLt
  have hc : broadcastInDim S64x262144x128 ![0, 1, 2] bcast_S64x262144x1_S64x262144x128_0_1_2
      (broadcastInDim S64x262144x1 ![0, 1] bcast_S64x262144_S64x262144x1_0_1 member) (ix3 b r l)
      = BitVec.ofBool (decide (r.val / 4096 = b.val)) := by
    refine (broadcastInDim_apply _ _ _ _ (ix3 b r (0 : Fin 1)) ?_).trans ((broadcastInDim_apply _ _ _ _ (ix2 b r) ?_).trans (member_apply b r))
    · intro a; fin_cases a <;> rfl
    · intro a; fin_cases a <;> rfl
  have hx : broadcastInDim S64x262144x128 ![0, 1, 2] bcast_S1x262144x128_S64x262144x128_0_1_2
      (broadcastInDim S1x262144x128 ![1, 2] bcast_S262144x128_S1x262144x128_1_2 (shapeCast _ x shapeCasts_S64x4096x128_S262144x128)) (ix3 b r l)
      = x (xIx (r.val / 4096) (r.val % 4096) l.val) := by
    refine (broadcastInDim_apply _ _ _ _ (ix3 (0 : Fin 1) r l) ?_).trans ((broadcastInDim_apply _ _ _ _ (ix2 r l) ?_).trans
      (shapeCast_apply _ _ _ _ ?_))
    · intro a; fin_cases a <;> rfl
    · intro a; fin_cases a <;> rfl
    · have hl := l.isLt
      rw [Shape.rowMajor_val_two, Shape.rowMajor_val_three]
      show (r.val / 4096 % 64 * 4096 + r.val % 4096 % 4096) * 128 + l.val % 128 = r.val * 128 + l.val
      omega
  show Scalar.select _ _ _ = _
  rw [hc, hx]
  unfold Scalar.select
  by_cases h : r.val / 4096 = b.val
  · rw [decide_eq_true h, if_pos h]; rfl
  · rw [decide_eq_false h, if_neg h]; rfl

/-- A number bounds the kernel's maximum exactly where it bounds minus infinity and every row folded. -/
theorem cm_le (x : FVec Ideal S64x4096x128 .f32) (g n l : ℕ) (c : EReal) :
    cm (F := Ideal) x g n l ≤ c ↔ Ideal.ofBits .f32 0xFF800000#32 ≤ c ∧ ∀ k < n, x (xIx g k l) ≤ c := by
  induction n with
  | zero => exact ⟨fun h => ⟨h, fun k hk => absurd hk (Nat.not_lt_zero k)⟩, fun h => h.1⟩
  | succ n ih =>
    show max (cm (F := Ideal) x g n l) (x (xIx g n l)) ≤ c ↔ _
    rw [max_le_iff, ih]
    constructor
    · rintro ⟨⟨h0, h1⟩, h2⟩
      refine ⟨h0, fun k hk => ?_⟩
      rcases Nat.lt_succ_iff_lt_or_eq.mp hk with h | rfl
      · exact h1 k h
      · exact h2
    · rintro ⟨h0, h1⟩
      exact ⟨⟨h0, fun k hk => h1 k (Nat.lt_succ_of_lt hk)⟩, h1 n (Nat.lt_succ_self n)⟩

/-- A number bounds the maximum over all rows of what a graph sees exactly where it bounds the kernel's maximum. -/
theorem max_eq (x : FVec Ideal S64x4096x128 .f32) (b : Fin 64) (l : Fin 128) :
    (Finset.univ : Finset (Fin 262144)).fold max (Ideal.ofBits .f32 0xFF800000#32) (fun r => seen x (ix3 b r l))
      = cm (F := Ideal) x b.val 4096 l.val := by
  refine eq_of_forall_ge_iff fun c => ?_
  rw [Finset.fold_max_le, cm_le]
  refine and_congr_right fun h0 => ⟨fun h k hk => ?_, fun h r _ => ?_⟩
  · have hb := b.isLt
    have e := h (⟨b.val * 4096 + k, by omega⟩ : Fin 262144) (Finset.mem_univ _)
    rw [seen_apply] at e
    have e1 : (b.val * 4096 + k) / 4096 = b.val := by omega
    have e2 : (b.val * 4096 + k) % 4096 = k := by omega
    simpa only [e1, e2, if_true] using e
  · rw [seen_apply]
    split
    · rename_i e
      rw [e]
      exact h _ (Nat.mod_lt _ (by decide))
    · exact h0

/-- The reference's result is the kernel's, for every graph and lane. -/
theorem ref_eq (x : FVec Ideal S64x4096x128 .f32) :
    Host.reduce (FloatOps.maximumf (F := Ideal) (φ := .f32)) (seen x) (constant S_ .f32 0xFF800000#32) reducesTo_S64x262144x128_S64x128_d1 h_S_ = G (F := Ideal) x := by
  funext y
  have h : S64x262144x128.Reduces [1] S64x128 := by decide
  refine (Host.reduce_eq_fold_single (max : EReal → EReal → EReal) _ _ _ h _ y).trans ?_
  refine Eq.trans ?_ (max_eq x (y 0) (y 1))
  refine congrArg (fun f => Finset.fold max (Ideal.ofBits .f32 0xFF800000#32) f (Finset.univ : Finset (Fin 262144))) (funext fun r => congrArg (seen x) ?_)
  funext c; apply Fin.ext
  fin_cases c <;> rfl

end Cert.Proof.Value

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel at the machine's own floats runs to the end, keeps its argument and leaves every counter at zero: its text is
    the idealized kernel's, whose run holds for any floats. -/
theorem frame_kernel : Cert.quiescent_Kernel := fun m ρ _ =>
  (θ_run Cert.KernelIdeal.defs _ _).mono (fun _ h => ⟨fun c => (h.1 c).1, h.2⟩) (Pool.run_main (F := Bits) m ρ)

/-- The idealized kernel runs to the end, keeps its argument and leaves every counter at zero. -/
theorem frame_kernelIdeal : Cert.quiescent_KernelIdeal := fun m ρ _ =>
  (θ_run Cert.KernelIdeal.defs _ _).mono (fun _ h => ⟨fun c => (h.1 c).1, h.2⟩) (Pool.run_main (F := Ideal) m ρ)

/-- The idealized reference runs to the end and keeps its argument; it has no counter. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel and the reference leave the same result: for every graph and lane the maximum over
    the graph's 4096 rows. -/
theorem algebraic : Cert.algebraic_KernelIdeal_ReferenceIdeal := by
  intro m ρ m' ρ' _ hagree
  refine ⟨fun c => Pool.res m c,
    (θ_run Cert.KernelIdeal.defs _ _).mono (fun _ h c => ⟨(h.1 c).2, (h.1 c).1⟩) (Pool.run_main (F := Ideal) m ρ),
    (θ_run Cert.ReferenceIdeal.defs _ _).mono (fun _ h c => ⟨(h c).1.trans ?_, (h c).2⟩) (Cert.ReferenceIdeal.Value.run (F := Ideal) m' ρ')⟩
  rw [hagree c]
  exact Value.ref_eq _

/-- Everything the certificate claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
